-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)
  ∧ IdealRules.named_const.Statement Cert.KernelIdeal.κ "not_causal" .f32 0xF149F2CA#32 ⊥
  ∧ IdealRules.named_const.Statement Cert.KernelIdeal.κ "block_mask" .f32 0xCE800000#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v166) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v40_0)) (v1 : (c : Dev Cert.Kernel4Ideal.nD) → Buf (Elt Ideal) ((c.tc : Thread Cert.Kernel4Ideal.nD Cert.Kernel4Ideal.τ).loc Cert.Kernel4Ideal.main_v40_1)) (v2 : (c : Dev Cert.Kernel4Ideal.nD) → Buf (Elt Ideal) ((c.tc : Thread Cert.Kernel4Ideal.nD Cert.Kernel4Ideal.τ).loc Cert.Kernel4Ideal.main_v40_2)) (v3 : (c : Dev Cert.Kernel4Ideal.nD) → Buf (Elt Ideal) ((c.tc : Thread Cert.Kernel4Ideal.nD Cert.Kernel4Ideal.τ).loc Cert.Kernel4Ideal.main_v40_3)) (v4 : (c : Dev Cert.Kernel4Ideal.nD) → Buf (Elt Ideal) ((c.tc : Thread Cert.Kernel4Ideal.nD Cert.Kernel4Ideal.τ).loc Cert.Kernel4Ideal.main_v40_4)) (v5 : (c : Dev Cert.Kernel4Ideal.nD) → Buf (Elt Ideal) ((c.tc : Thread Cert.Kernel4Ideal.nD Cert.Kernel4Ideal.τ).loc Cert.Kernel4Ideal.main_v40_5)) (v6 : (c : Dev Cert.Kernel4Ideal.nD) → Buf (Elt Ideal) ((c.tc : Thread Cert.Kernel4Ideal.nD Cert.Kernel4Ideal.τ).loc Cert.Kernel4Ideal.main_v40_6)) (v7 : (c : Dev Cert.Kernel4Ideal.nD) → Buf (Elt Ideal) ((c.tc : Thread Cert.Kernel4Ideal.nD Cert.Kernel4Ideal.τ).loc Cert.Kernel4Ideal.main_v40_7)) (v8 : (c : Dev Cert.Kernel4Ideal.nD) → Buf (Elt Ideal) ((c.tc : Thread Cert.Kernel4Ideal.nD Cert.Kernel4Ideal.τ).loc Cert.Kernel4Ideal.main_v40_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40_0) = v0 c
          ∧ r.2.mem ((c.tc : Thread Cert.Kernel4Ideal.nD Cert.Kernel4Ideal.τ).loc Cert.Kernel4Ideal.main_v40_1) = v1 c
          ∧ r.2.mem ((c.tc : Thread Cert.Kernel4Ideal.nD Cert.Kernel4Ideal.τ).loc Cert.Kernel4Ideal.main_v40_2) = v2 c
          ∧ r.2.mem ((c.tc : Thread Cert.Kernel4Ideal.nD Cert.Kernel4Ideal.τ).loc Cert.Kernel4Ideal.main_v40_3) = v3 c
          ∧ r.2.mem ((c.tc : Thread Cert.Kernel4Ideal.nD Cert.Kernel4Ideal.τ).loc Cert.Kernel4Ideal.main_v40_4) = v4 c
          ∧ r.2.mem ((c.tc : Thread Cert.Kernel4Ideal.nD Cert.Kernel4Ideal.τ).loc Cert.Kernel4Ideal.main_v40_5) = v5 c
          ∧ r.2.mem ((c.tc : Thread Cert.Kernel4Ideal.nD Cert.Kernel4Ideal.τ).loc Cert.Kernel4Ideal.main_v40_6) = v6 c
          ∧ r.2.mem ((c.tc : Thread Cert.Kernel4Ideal.nD Cert.Kernel4Ideal.τ).loc Cert.Kernel4Ideal.main_v40_7) = v7 c
          ∧ r.2.mem ((c.tc : Thread Cert.Kernel4Ideal.nD Cert.Kernel4Ideal.τ).loc Cert.Kernel4Ideal.main_v40_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v88) = v0 c
          ∧ r.2.mem ((c.tc : Thread Cert.Reference4Ideal.nD Cert.Reference4Ideal.τ).loc Cert.Reference4Ideal.main_v119) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_v153) = v3 c
          ∧ r.2.mem ((c.tc : Thread Cert.Reference4Ideal.nD Cert.Reference4Ideal.τ).loc Cert.Reference4Ideal.main_v188) = v4 c
          ∧ r.2.mem ((c.tc : Thread Cert.Reference4Ideal.nD Cert.Reference4Ideal.τ).loc Cert.Reference4Ideal.main_v193) = v5 c
          ∧ r.2.mem ((c.tc : Thread Cert.Reference4Ideal.nD Cert.Reference4Ideal.τ).loc Cert.Reference4Ideal.main_v198) = v6 c
          ∧ r.2.mem ((c.tc : Thread Cert.Reference4Ideal.nD Cert.Reference4Ideal.τ).loc Cert.Reference4Ideal.main_v200) = v7 c
          ∧ r.2.mem ((c.tc : Thread Cert.Reference4Ideal.nD Cert.Reference4Ideal.τ).loc Cert.Reference4Ideal.main_v35) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x4096x8x64 : Shape := ⟨4, ![8, 4096, 8, 64]⟩
abbrev S8x255x2x64 : Shape := ⟨4, ![8, 255, 2, 64]⟩
abbrev S8x4096x2x64 : Shape := ⟨4, ![8, 4096, 2, 64]⟩
abbrev S8x4096x8x3 : Shape := ⟨4, ![8, 4096, 8, 3]⟩
abbrev S64x256 : Shape := ⟨2, ![64, 256]⟩
abbrev S8x2x4096x64 : Shape := ⟨4, ![8, 2, 4096, 64]⟩
abbrev S_ : Shape := ⟨0, ![]⟩
abbrev S8x8x4096x64 : Shape := ⟨4, ![8, 8, 4096, 64]⟩
abbrev S8x8x4096x128 : Shape := ⟨4, ![8, 8, 4096, 128]⟩
abbrev S8x2x4096x128 : Shape := ⟨4, ![8, 2, 4096, 128]⟩
abbrev S8x4096x2x12 : Shape := ⟨4, ![8, 4096, 2, 12]⟩
abbrev S8x2x4096x12 : Shape := ⟨4, ![8, 2, 4096, 12]⟩
abbrev S8x2x255x64 : Shape := ⟨4, ![8, 2, 255, 64]⟩
abbrev S8x2x256x64 : Shape := ⟨4, ![8, 2, 256, 64]⟩
abbrev S8x2x256x128 : Shape := ⟨4, ![8, 2, 256, 128]⟩
abbrev S8x4096x512 : Shape := ⟨3, ![8, 4096, 512]⟩
abbrev S1x4x256x128 : Shape := ⟨4, ![1, 4, 256, 128]⟩
abbrev S1x1x256x128 : Shape := ⟨4, ![1, 1, 256, 128]⟩
abbrev S1x1x4096x128 : Shape := ⟨4, ![1, 1, 4096, 128]⟩
abbrev S1x256x256 : Shape := ⟨3, ![1, 256, 256]⟩
abbrev S1024x128 : Shape := ⟨2, ![1024, 128]⟩
abbrev S4x256x128 : Shape := ⟨3, ![4, 256, 128]⟩
abbrev S256x1 : Shape := ⟨2, ![256, 1]⟩
abbrev S1024x1 : Shape := ⟨2, ![1024, 1]⟩
abbrev S256x128 : Shape := ⟨2, ![256, 128]⟩
abbrev S1024x256 : Shape := ⟨2, ![1024, 256]⟩
abbrev S1x256 : Shape := ⟨2, ![1, 256]⟩
abbrev S1024 : Shape := ⟨1, ![1024]⟩
abbrev S256x256 : Shape := ⟨2, ![256, 256]⟩
abbrev S8x256 : Shape := ⟨2, ![8, 256]⟩
abbrev S128x256 : Shape := ⟨2, ![128, 256]⟩
abbrev S1x256x128 : Shape := ⟨3, ![1, 256, 128]⟩
abbrev S1x1x2048x128 : Shape := ⟨4, ![1, 1, 2048, 128]⟩
abbrev S2048x128 : Shape := ⟨2, ![2048, 128]⟩
abbrev S1024x2048 : Shape := ⟨2, ![1024, 2048]⟩
abbrev S256x2048 : Shape := ⟨2, ![256, 2048]⟩
abbrev S1x1x1024x128 : Shape := ⟨4, ![1, 1, 1024, 128]⟩
abbrev S1024x1024 : Shape := ⟨2, ![1024, 1024]⟩
abbrev S256x1024 : Shape := ⟨2, ![256, 1024]⟩
abbrev S1x1x512x128 : Shape := ⟨4, ![1, 1, 512, 128]⟩
abbrev S512x128 : Shape := ⟨2, ![512, 128]⟩
abbrev S1024x512 : Shape := ⟨2, ![1024, 512]⟩
abbrev S256x512 : Shape := ⟨2, ![256, 512]⟩
abbrev S1x512 : Shape := ⟨2, ![1, 512]⟩
abbrev S1x1x768x128 : Shape := ⟨4, ![1, 1, 768, 128]⟩
abbrev S768x128 : Shape := ⟨2, ![768, 128]⟩
abbrev S1024x768 : Shape := ⟨2, ![1024, 768]⟩
abbrev S1x768 : Shape := ⟨2, ![1, 768]⟩
abbrev S256x768 : Shape := ⟨2, ![256, 768]⟩
abbrev S256x64 : Shape := ⟨2, ![256, 64]⟩

abbrev nBuf : Space → Nat
  | .hbm => 88
  | .vmem => 23
  | .smem => 0
  | _ => 0

abbrev bufTy : (tb : Table) → Fin (tcTables nBuf tb) → BufTy
  | .hbm, ⟨0, _⟩ => ⟨S8x4096x8x64, .f32⟩
  | .hbm, ⟨1, _⟩ => ⟨S8x255x2x64, .f32⟩
  | .hbm, ⟨2, _⟩ => ⟨S8x255x2x64, .f32⟩
  | .hbm, ⟨3, _⟩ => ⟨S8x4096x2x64, .f32⟩
  | .hbm, ⟨4, _⟩ => ⟨S8x4096x2x64, .f32⟩
  | .hbm, ⟨5, _⟩ => ⟨S8x4096x2x64, .f32⟩
  | .hbm, ⟨6, _⟩ => ⟨S8x4096x2x64, .f32⟩
  | .hbm, ⟨7, _⟩ => ⟨S8x4096x8x3, .f32⟩
  | .hbm, ⟨8, _⟩ => ⟨S64x256, .bf16⟩
  | .hbm, ⟨9, _⟩ => ⟨S8x2x4096x64, .i32⟩
  | .hbm, ⟨10, _⟩ => ⟨S_, .i32⟩
  | .hbm, ⟨11, _⟩ => ⟨S_, .i32⟩
  | .hbm, ⟨12, _⟩ => ⟨S8x2x4096x64, .i32⟩
  | .hbm, ⟨13, _⟩ => ⟨S8x2x4096x64, .i32⟩
  | .hbm, ⟨14, _⟩ => ⟨S8x2x4096x64, .i32⟩
  | .hbm, ⟨15, _⟩ => ⟨S_, .i32⟩
  | .hbm, ⟨16, _⟩ => ⟨S8x2x4096x64, .i32⟩
  | .hbm, ⟨17, _⟩ => ⟨S8x2x4096x64, .i1⟩
  | .hbm, ⟨18, _⟩ => ⟨S8x2x4096x64, .i32⟩
  | .hbm, ⟨19, _⟩ => ⟨S8x2x4096x64, .i32⟩
  | .hbm, ⟨20, _⟩ => ⟨S_, .i32⟩
  | .hbm, ⟨21, _⟩ => ⟨S8x2x4096x64, .i32⟩
  | .hbm, ⟨22, _⟩ => ⟨S8x2x4096x64, .i1⟩
  | .hbm, ⟨23, _⟩ => ⟨S8x2x4096x64, .i1⟩
  | .hbm, ⟨24, _⟩ => ⟨S_, .i32⟩
  | .hbm, ⟨25, _⟩ => ⟨S8x2x4096x64, .i32⟩
  | .hbm, ⟨26, _⟩ => ⟨S8x2x4096x64, .i32⟩
  | .hbm, ⟨27, _⟩ => ⟨S8x2x4096x64, .i32⟩
  | .hbm, ⟨28, _⟩ => ⟨S8x2x4096x64, .i32⟩
  | .hbm, ⟨29, _⟩ => ⟨S8x2x4096x64, .i1⟩
  | .hbm, ⟨30, _⟩ => ⟨S_, .f32⟩
  | .hbm, ⟨31, _⟩ => ⟨S_, .f32⟩
  | .hbm, ⟨32, _⟩ => ⟨S8x2x4096x64, .f32⟩
  | .hbm, ⟨33, _⟩ => ⟨S8x2x4096x64, .f32⟩
  | .hbm, ⟨34, _⟩ => ⟨S8x2x4096x64, .f32⟩
  | .hbm, ⟨35, _⟩ => ⟨S8x2x4096x64, .i32⟩
  | .hbm, ⟨36, _⟩ => ⟨S_, .i32⟩
  | .hbm, ⟨37, _⟩ => ⟨S8x2x4096x64, .i32⟩
  | .hbm, ⟨38, _⟩ => ⟨S8x2x4096x64, .i1⟩
  | .hbm, ⟨39, _⟩ => ⟨S_, .f32⟩
  | .hbm, ⟨40, _⟩ => ⟨S_, .f32⟩
  | .hbm, ⟨41, _⟩ => ⟨S8x2x4096x64, .f32⟩
  | .hbm, ⟨42, _⟩ => ⟨S8x2x4096x64, .f32⟩
  | .hbm, ⟨43, _⟩ => ⟨S8x2x4096x64, .f32⟩
  | .hbm, ⟨44, _⟩ => ⟨S8x8x4096x64, .f32⟩
  | .hbm, ⟨45, _⟩ => ⟨S_, .i32⟩
  | .hbm, ⟨46, _⟩ => ⟨S_, .f32⟩
  | .hbm, ⟨47, _⟩ => ⟨S8x8x4096x128, .f32⟩
  | .hbm, ⟨48, _⟩ => ⟨S8x8x4096x128, .bf16⟩
  | .hbm, ⟨49, _⟩ => ⟨S8x2x4096x64, .f32⟩
  | .hbm, ⟨50, _⟩ => ⟨S8x2x4096x64, .f32⟩
  | .hbm, ⟨51, _⟩ => ⟨S8x2x4096x128, .f32⟩
  | .hbm, ⟨52, _⟩ => ⟨S8x2x4096x128, .bf16⟩
  | .hbm, ⟨53, _⟩ => ⟨S8x2x4096x64, .f32⟩
  | .hbm, ⟨54, _⟩ => ⟨S8x2x4096x64, .f32⟩
  | .hbm, ⟨55, _⟩ => ⟨S8x2x4096x128, .f32⟩
  | .hbm, ⟨56, _⟩ => ⟨S8x2x4096x128, .bf16⟩
  | .hbm, ⟨57, _⟩ => ⟨S8x2x4096x64, .f32⟩
  | .hbm, ⟨58, _⟩ => ⟨S8x2x4096x64, .f32⟩
  | .hbm, ⟨59, _⟩ => ⟨S8x2x4096x128, .f32⟩
  | .hbm, ⟨60, _⟩ => ⟨S8x2x4096x128, .bf16⟩
  | .hbm, ⟨61, _⟩ => ⟨S8x4096x2x12, .f32⟩
  | .hbm, ⟨62, _⟩ => ⟨S8x2x4096x12, .f32⟩
  | .hbm, ⟨63, _⟩ => ⟨S_, .i32⟩
  | .hbm, ⟨64, _⟩ => ⟨S_, .f32⟩
  | .hbm, ⟨65, _⟩ => ⟨S8x2x4096x128, .f32⟩
  | .hbm, ⟨66, _⟩ => ⟨S8x2x255x64, .f32⟩
  | .hbm, ⟨67, _⟩ => ⟨S_, .i32⟩
  | .hbm, ⟨68, _⟩ => ⟨S_, .f32⟩
  | .hbm, ⟨69, _⟩ => ⟨S8x2x256x64, .f32⟩
  | .hbm, ⟨70, _⟩ => ⟨S_, .i32⟩
  | .hbm, ⟨71, _⟩ => ⟨S_, .f32⟩
  | .hbm, ⟨72, _⟩ => ⟨S8x2x256x128, .f32⟩
  | .hbm, ⟨73, _⟩ => ⟨S8x2x256x128, .bf16⟩
  | .hbm, ⟨74, _⟩ => ⟨S8x2x255x64, .f32⟩
  | .hbm, ⟨75, _⟩ => ⟨S_, .i32⟩
  | .hbm, ⟨76, _⟩ => ⟨S_, .f32⟩
  | .hbm, ⟨77, _⟩ => ⟨S8x2x256x64, .f32⟩
  | .hbm, ⟨78, _⟩ => ⟨S_, .i32⟩
  | .hbm, ⟨79, _⟩ => ⟨S_, .f32⟩
  | .hbm, ⟨80, _⟩ => ⟨S8x2x256x128, .f32⟩
  | .hbm, ⟨81, _⟩ => ⟨S8x2x256x128, .bf16⟩
  | .hbm, ⟨82, _⟩ => ⟨S8x2x4096x64, .f32⟩
  | .hbm, ⟨83, _⟩ => ⟨S_, .i32⟩
  | .hbm, ⟨84, _⟩ => ⟨S_, .f32⟩
  | .hbm, ⟨85, _⟩ => ⟨S8x2x4096x128, .f32⟩
  | .hbm, ⟨86, _⟩ => ⟨S8x2x4096x128, .bf16⟩
  | .hbm, ⟨87, _⟩ => ⟨S8x4096x512, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x1x256x128, .bf16⟩
  | .local _ .vmem, ⟨3, _⟩ => ⟨S1x1x256x128, .bf16⟩
  | .local _ .vmem, ⟨4, _⟩ => ⟨S1x1x256x128, .bf16⟩
  | .local _ .vmem, ⟨5, _⟩ => ⟨S1x1x256x128, .bf16⟩
  | .local _ .vmem, ⟨6, _⟩ => ⟨S1x1x4096x128, .bf16⟩
  | .local _ .vmem, ⟨7, _⟩ => ⟨S1x1x4096x128, .bf16⟩
  | .local _ .vmem, ⟨8, _⟩ => ⟨S1x1x4096x128, .bf16⟩
  | .local _ .vmem, ⟨9, _⟩ => ⟨S1x1x4096x128, .bf16⟩
  | .local _ .vmem, ⟨10, _⟩ => ⟨S1x1x4096x128, .bf16⟩
  | .local _ .vmem, ⟨11, _⟩ => ⟨S1x1x4096x128, .bf16⟩
  | .local _ .vmem, ⟨12, _⟩ => ⟨S1x1x4096x128, .bf16⟩
  | .local _ .vmem, ⟨13, _⟩ => ⟨S1x1x4096x128, .bf16⟩
  | .local _ .vmem, ⟨14, _⟩ => ⟨S1x1x256x128, .f32⟩
  | .local _ .vmem, ⟨15, _⟩ => ⟨S1x1x256x128, .f32⟩
  | .local _ .vmem, ⟨16, _⟩ => ⟨S64x256, .bf16⟩
  | .local _ .vmem, ⟨17, _⟩ => ⟨S1x256x256, .bf16⟩
  | .local _ .vmem, ⟨18, _⟩ => ⟨S1x256x256, .bf16⟩
  | .local _ .vmem, ⟨19, _⟩ => ⟨S64x256, .f32⟩
  | .local _ .vmem, ⟨20, _⟩ => ⟨S64x256, .f32⟩
  | .local _ .vmem, ⟨21, _⟩ => ⟨S1024x128, .f32⟩
  | .local _ .vmem, ⟨22, _⟩ => ⟨S4x256x128, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst_0 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v4 : Ref sig .tc := ⟨.hbm, 34, rfl⟩
abbrev main_v5 : Ref sig .tc := ⟨.hbm, 35, rfl⟩
abbrev main_c_2 : Ref sig .tc := ⟨.hbm, 36, rfl⟩
abbrev main_v6 : Ref sig .tc := ⟨.hbm, 37, rfl⟩
abbrev main_v7 : Ref sig .tc := ⟨.hbm, 38, rfl⟩
abbrev main_cst_3 : Ref sig .tc := ⟨.hbm, 39, rfl⟩
abbrev main_cst_4 : Ref sig .tc := ⟨.hbm, 40, rfl⟩
abbrev main_call2_v0 : Ref sig .tc := ⟨.hbm, 41, rfl⟩
abbrev main_call2_v1 : Ref sig .tc := ⟨.hbm, 42, rfl⟩
abbrev main_v8 : Ref sig .tc := ⟨.hbm, 43, rfl⟩
abbrev main_v9 : Ref sig .tc := ⟨.hbm, 44, rfl⟩
abbrev main_c_5 : Ref sig .tc := ⟨.hbm, 45, rfl⟩
abbrev main_call3_v0 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_6 : Ref sig .tc := ⟨.hbm, 63, rfl⟩
abbrev main_call4_v0 : Ref sig .tc := ⟨.hbm, 64, rfl⟩
abbrev main_v26 : Ref sig .tc := ⟨.hbm, 65, rfl⟩
abbrev main_v27 : Ref sig .tc := ⟨.hbm, 66, rfl⟩
abbrev main_c_7 : Ref sig .tc := ⟨.hbm, 67, rfl⟩
abbrev main_call5_v0 : Ref sig .tc := ⟨.hbm, 68, rfl⟩
abbrev main_v28 : Ref sig .tc := ⟨.hbm, 69, rfl⟩
abbrev main_c_8 : Ref sig .tc := ⟨.hbm, 70, rfl⟩
abbrev main_call6_v0 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_c_9 : Ref sig .tc := ⟨.hbm, 75, rfl⟩
abbrev main_call7_v0 : Ref sig .tc := ⟨.hbm, 76, rfl⟩
abbrev main_v32 : Ref sig .tc := ⟨.hbm, 77, rfl⟩
abbrev main_c_10 : Ref sig .tc := ⟨.hbm, 78, rfl⟩
abbrev main_call8_v0 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_c_11 : Ref sig .tc := ⟨.hbm, 83, rfl⟩
abbrev main_call9_v0 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![8, 2, 16], ![false, false, false]⟩

@[reducible] def k0_t1_loop (i : grid0.Coords) : Scf.Loop 32 :=
  let c0_i32_85 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let v222 : BitVec 32 := Scalar.subi v221 c0_i32_85
  let c1_i32_87 : BitVec 32 := 1#32
  let v224 : BitVec 32 := Scalar.divsi v222 c1_i32_87
  let v225 : BitVec 32 := Scalar.muli v224 c1_i32_87
  let v226 : BitVec 32 := Scalar.addi c0_i32_85 v225
  let c1_i32_88 : BitVec 32 := 1#32
  ⟨c0_i32_85, v226, c1_i32_88⟩
def k0_mult1 (i : grid0.Coords) (k0_t1 : Fin (k0_t1_loop i).trips) : BitVec 32 :=
  let c0_i32_192 : BitVec 32 := 0#32
  let c0_i32_85 : BitVec 32 := 0#32
  let c1_i32_88 : BitVec 32 := 1#32
  let arg17 : BitVec 32 := Scf.iv c0_i32_85 c1_i32_88 k0_t1
  let c2048_i32_191 : BitVec 32 := 2048#32
  let v479 : BitVec 32 := Scalar.muli arg17 c2048_i32_191
  let v480 : BitVec 32 := Scalar.addi c0_i32_192 v479
  v480
def k0_off1 (i : grid0.Coords) (k0_t1 : Fin (k0_t1_loop i).trips) : Fin 4 → Nat :=
  let c0_193 : Index := 0#32
  let c0_194 : Index := 0#32
  let c0_i32_192 : BitVec 32 := 0#32
  let c0_i32_85 : BitVec 32 := 0#32
  let c1_i32_88 : BitVec 32 := 1#32
  let arg17 : BitVec 32 := Scf.iv c0_i32_85 c1_i32_88 k0_t1
  let c2048_i32_191 : BitVec 32 := 2048#32
  let v479 : BitVec 32 := Scalar.muli arg17 c2048_i32_191
  let v480 : BitVec 32 := Scalar.addi c0_i32_192 v479
  let v481 : BitVec 32 := v480
  let v482 : Index := Scalar.indexCast v481
  let c0_195 : Index := 0#32
  ![0, 0, v482.toNat, 0]
@[reducible] def k0_t2_loop (i : grid0.Coords) : Scf.Loop 32 :=
  let c0_i32_85 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let v222 : BitVec 32 := Scalar.subi v221 c0_i32_85
  let c1_i32_87 : BitVec 32 := 1#32
  let v224 : BitVec 32 := Scalar.divsi v222 c1_i32_87
  let v225 : BitVec 32 := Scalar.muli v224 c1_i32_87
  let v226 : BitVec 32 := Scalar.addi c0_i32_85 v225
  let v223 : BitVec 32 := Scalar.addi c0_i32_85 v222
  let c1_i32_89 : BitVec 32 := 1#32
  ⟨v226, v223, c1_i32_89⟩
def k0_mult2 (i : grid0.Coords) (k0_t2 : Fin (k0_t2_loop i).trips) : BitVec 32 :=
  let c0_i32_192 : BitVec 32 := 0#32
  let c0_i32_85 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let v222 : BitVec 32 := Scalar.subi v221 c0_i32_85
  let c1_i32_87 : BitVec 32 := 1#32
  let v224 : BitVec 32 := Scalar.divsi v222 c1_i32_87
  let v225 : BitVec 32 := Scalar.muli v224 c1_i32_87
  let v226 : BitVec 32 := Scalar.addi c0_i32_85 v225
  let c1_i32_89 : BitVec 32 := 1#32
  let arg17 : BitVec 32 := Scf.iv v226 c1_i32_89 k0_t2
  let c2048_i32_191 : BitVec 32 := 2048#32
  let v479 : BitVec 32 := Scalar.muli arg17 c2048_i32_191
  let v480 : BitVec 32 := Scalar.addi c0_i32_192 v479
  v480
def k0_off2 (i : grid0.Coords) (k0_t2 : Fin (k0_t2_loop i).trips) : Fin 4 → Nat :=
  let c0_193 : Index := 0#32
  let c0_194 : Index := 0#32
  let c0_i32_192 : BitVec 32 := 0#32
  let c0_i32_85 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let v222 : BitVec 32 := Scalar.subi v221 c0_i32_85
  let c1_i32_87 : BitVec 32 := 1#32
  let v224 : BitVec 32 := Scalar.divsi v222 c1_i32_87
  let v225 : BitVec 32 := Scalar.muli v224 c1_i32_87
  let v226 : BitVec 32 := Scalar.addi c0_i32_85 v225
  let c1_i32_89 : BitVec 32 := 1#32
  let arg17 : BitVec 32 := Scf.iv v226 c1_i32_89 k0_t2
  let c2048_i32_191 : BitVec 32 := 2048#32
  let v479 : BitVec 32 := Scalar.muli arg17 c2048_i32_191
  let v480 : BitVec 32 := Scalar.addi c0_i32_192 v479
  let v481 : BitVec 32 := v480
  let v482 : Index := Scalar.indexCast v481
  let c0_195 : Index := 0#32
  ![0, 0, v482.toNat, 0]
@[reducible] def k0_t3_loop (i : grid0.Coords) : Scf.Loop 32 :=
  let c0_i32_98 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_91 : BitVec 32 := 0#32
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let c2048_i32_90 : BitVec 32 := 2048#32
  let v229 : BitVec 32 := Scalar.muli v221 c2048_i32_90
  let v230 : BitVec 32 := Scalar.addi c0_i32_91 v229
  let v231 : BitVec 32 := Scalar.subi v195 v230
  let c0_i32_92 : BitVec 32 := 0#32
  let v233 : BitVec 1 := Scalar.cmpi .sgt v231 c0_i32_92
  let v234 : BitVec 32 := Scalar.extui v233
  let c0_i32_93 : BitVec 32 := 0#32
  let v235 : BitVec 1 := Scalar.cmpi .slt v231 c0_i32_93
  let v236 : BitVec 32 := Scalar.extui v235
  let v237 : BitVec 32 := Scalar.subi v234 v236
  let c1024_i32 : BitVec 32 := 1024#32
  let c0_i32_94 : BitVec 32 := 0#32
  let v238 : BitVec 1 := Scalar.cmpi .sgt c1024_i32 c0_i32_94
  let v239 : BitVec 32 := Scalar.extui v238
  let c0_i32_95 : BitVec 32 := 0#32
  let v240 : BitVec 1 := Scalar.cmpi .slt c1024_i32 c0_i32_95
  let v241 : BitVec 32 := Scalar.extui v240
  let v242 : BitVec 32 := Scalar.subi v239 v241
  let v243 : BitVec 1 := Scalar.cmpi .ne v237 v242
  let v244 : BitVec 32 := Scalar.remsi v231 c1024_i32
  let c0_i32_96 : BitVec 32 := 0#32
  let v245 : BitVec 1 := Scalar.cmpi .ne v244 c0_i32_96
  let v246 : BitVec 1 := Scalar.andi v243 v245
  let v232 : BitVec 32 := Scalar.divsi v231 c1024_i32
  let c1_i32_97 : BitVec 32 := 1#32
  let v247 : BitVec 32 := Scalar.subi v232 c1_i32_97
  let v248 : BitVec 32 := Scalar.select v246 v247 v232
  let v249 : BitVec 32 := Scalar.subi v248 c0_i32_98
  let c1_i32_100 : BitVec 32 := 1#32
  let v251 : BitVec 32 := Scalar.divsi v249 c1_i32_100
  let v252 : BitVec 32 := Scalar.muli v251 c1_i32_100
  let v253 : BitVec 32 := Scalar.addi c0_i32_98 v252
  let c1_i32_101 : BitVec 32 := 1#32
  ⟨c0_i32_98, v253, c1_i32_101⟩
def k0_mult3 (i : grid0.Coords) (k0_t3 : Fin (k0_t3_loop i).trips) : BitVec 32 :=
  let c0_i32_91 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let c2048_i32_90 : BitVec 32 := 2048#32
  let v229 : BitVec 32 := Scalar.muli v221 c2048_i32_90
  let v230 : BitVec 32 := Scalar.addi c0_i32_91 v229
  let c0_i32_98 : BitVec 32 := 0#32
  let c1_i32_101 : BitVec 32 := 1#32
  let arg17 : BitVec 32 := Scf.iv c0_i32_98 c1_i32_101 k0_t3
  let c1024_i32_191 : BitVec 32 := 1024#32
  let v479 : BitVec 32 := Scalar.muli arg17 c1024_i32_191
  let v480 : BitVec 32 := Scalar.addi v230 v479
  v480
def k0_off3 (i : grid0.Coords) (k0_t3 : Fin (k0_t3_loop i).trips) : Fin 4 → Nat :=
  let c0_192 : Index := 0#32
  let c0_193 : Index := 0#32
  let c0_i32_91 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let c2048_i32_90 : BitVec 32 := 2048#32
  let v229 : BitVec 32 := Scalar.muli v221 c2048_i32_90
  let v230 : BitVec 32 := Scalar.addi c0_i32_91 v229
  let c0_i32_98 : BitVec 32 := 0#32
  let c1_i32_101 : BitVec 32 := 1#32
  let arg17 : BitVec 32 := Scf.iv c0_i32_98 c1_i32_101 k0_t3
  let c1024_i32_191 : BitVec 32 := 1024#32
  let v479 : BitVec 32 := Scalar.muli arg17 c1024_i32_191
  let v480 : BitVec 32 := Scalar.addi v230 v479
  let v481 : BitVec 32 := v480
  let v482 : Index := Scalar.indexCast v481
  let c0_194 : Index := 0#32
  ![0, 0, v482.toNat, 0]
@[reducible] def k0_t4_loop (i : grid0.Coords) : Scf.Loop 32 :=
  let c0_i32_98 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_91 : BitVec 32 := 0#32
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let c2048_i32_90 : BitVec 32 := 2048#32
  let v229 : BitVec 32 := Scalar.muli v221 c2048_i32_90
  let v230 : BitVec 32 := Scalar.addi c0_i32_91 v229
  let v231 : BitVec 32 := Scalar.subi v195 v230
  let c0_i32_92 : BitVec 32 := 0#32
  let v233 : BitVec 1 := Scalar.cmpi .sgt v231 c0_i32_92
  let v234 : BitVec 32 := Scalar.extui v233
  let c0_i32_93 : BitVec 32 := 0#32
  let v235 : BitVec 1 := Scalar.cmpi .slt v231 c0_i32_93
  let v236 : BitVec 32 := Scalar.extui v235
  let v237 : BitVec 32 := Scalar.subi v234 v236
  let c1024_i32 : BitVec 32 := 1024#32
  let c0_i32_94 : BitVec 32 := 0#32
  let v238 : BitVec 1 := Scalar.cmpi .sgt c1024_i32 c0_i32_94
  let v239 : BitVec 32 := Scalar.extui v238
  let c0_i32_95 : BitVec 32 := 0#32
  let v240 : BitVec 1 := Scalar.cmpi .slt c1024_i32 c0_i32_95
  let v241 : BitVec 32 := Scalar.extui v240
  let v242 : BitVec 32 := Scalar.subi v239 v241
  let v243 : BitVec 1 := Scalar.cmpi .ne v237 v242
  let v244 : BitVec 32 := Scalar.remsi v231 c1024_i32
  let c0_i32_96 : BitVec 32 := 0#32
  let v245 : BitVec 1 := Scalar.cmpi .ne v244 c0_i32_96
  let v246 : BitVec 1 := Scalar.andi v243 v245
  let v232 : BitVec 32 := Scalar.divsi v231 c1024_i32
  let c1_i32_97 : BitVec 32 := 1#32
  let v247 : BitVec 32 := Scalar.subi v232 c1_i32_97
  let v248 : BitVec 32 := Scalar.select v246 v247 v232
  let v249 : BitVec 32 := Scalar.subi v248 c0_i32_98
  let c1_i32_100 : BitVec 32 := 1#32
  let v251 : BitVec 32 := Scalar.divsi v249 c1_i32_100
  let v252 : BitVec 32 := Scalar.muli v251 c1_i32_100
  let v253 : BitVec 32 := Scalar.addi c0_i32_98 v252
  let v250 : BitVec 32 := Scalar.addi c0_i32_98 v249
  let c1_i32_102 : BitVec 32 := 1#32
  ⟨v253, v250, c1_i32_102⟩
def k0_mult4 (i : grid0.Coords) (k0_t4 : Fin (k0_t4_loop i).trips) : BitVec 32 :=
  let c0_i32_91 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let c2048_i32_90 : BitVec 32 := 2048#32
  let v229 : BitVec 32 := Scalar.muli v221 c2048_i32_90
  let v230 : BitVec 32 := Scalar.addi c0_i32_91 v229
  let c0_i32_98 : BitVec 32 := 0#32
  let v231 : BitVec 32 := Scalar.subi v195 v230
  let c0_i32_92 : BitVec 32 := 0#32
  let v233 : BitVec 1 := Scalar.cmpi .sgt v231 c0_i32_92
  let v234 : BitVec 32 := Scalar.extui v233
  let c0_i32_93 : BitVec 32 := 0#32
  let v235 : BitVec 1 := Scalar.cmpi .slt v231 c0_i32_93
  let v236 : BitVec 32 := Scalar.extui v235
  let v237 : BitVec 32 := Scalar.subi v234 v236
  let c1024_i32 : BitVec 32 := 1024#32
  let c0_i32_94 : BitVec 32 := 0#32
  let v238 : BitVec 1 := Scalar.cmpi .sgt c1024_i32 c0_i32_94
  let v239 : BitVec 32 := Scalar.extui v238
  let c0_i32_95 : BitVec 32 := 0#32
  let v240 : BitVec 1 := Scalar.cmpi .slt c1024_i32 c0_i32_95
  let v241 : BitVec 32 := Scalar.extui v240
  let v242 : BitVec 32 := Scalar.subi v239 v241
  let v243 : BitVec 1 := Scalar.cmpi .ne v237 v242
  let v244 : BitVec 32 := Scalar.remsi v231 c1024_i32
  let c0_i32_96 : BitVec 32 := 0#32
  let v245 : BitVec 1 := Scalar.cmpi .ne v244 c0_i32_96
  let v246 : BitVec 1 := Scalar.andi v243 v245
  let v232 : BitVec 32 := Scalar.divsi v231 c1024_i32
  let c1_i32_97 : BitVec 32 := 1#32
  let v247 : BitVec 32 := Scalar.subi v232 c1_i32_97
  let v248 : BitVec 32 := Scalar.select v246 v247 v232
  let v249 : BitVec 32 := Scalar.subi v248 c0_i32_98
  let c1_i32_100 : BitVec 32 := 1#32
  let v251 : BitVec 32 := Scalar.divsi v249 c1_i32_100
  let v252 : BitVec 32 := Scalar.muli v251 c1_i32_100
  let v253 : BitVec 32 := Scalar.addi c0_i32_98 v252
  let c1_i32_102 : BitVec 32 := 1#32
  let arg17 : BitVec 32 := Scf.iv v253 c1_i32_102 k0_t4
  let c1024_i32_191 : BitVec 32 := 1024#32
  let v479 : BitVec 32 := Scalar.muli arg17 c1024_i32_191
  let v480 : BitVec 32 := Scalar.addi v230 v479
  v480
def k0_off4 (i : grid0.Coords) (k0_t4 : Fin (k0_t4_loop i).trips) : Fin 4 → Nat :=
  let c0_192 : Index := 0#32
  let c0_193 : Index := 0#32
  let c0_i32_91 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let c2048_i32_90 : BitVec 32 := 2048#32
  let v229 : BitVec 32 := Scalar.muli v221 c2048_i32_90
  let v230 : BitVec 32 := Scalar.addi c0_i32_91 v229
  let c0_i32_98 : BitVec 32 := 0#32
  let v231 : BitVec 32 := Scalar.subi v195 v230
  let c0_i32_92 : BitVec 32 := 0#32
  let v233 : BitVec 1 := Scalar.cmpi .sgt v231 c0_i32_92
  let v234 : BitVec 32 := Scalar.extui v233
  let c0_i32_93 : BitVec 32 := 0#32
  let v235 : BitVec 1 := Scalar.cmpi .slt v231 c0_i32_93
  let v236 : BitVec 32 := Scalar.extui v235
  let v237 : BitVec 32 := Scalar.subi v234 v236
  let c1024_i32 : BitVec 32 := 1024#32
  let c0_i32_94 : BitVec 32 := 0#32
  let v238 : BitVec 1 := Scalar.cmpi .sgt c1024_i32 c0_i32_94
  let v239 : BitVec 32 := Scalar.extui v238
  let c0_i32_95 : BitVec 32 := 0#32
  let v240 : BitVec 1 := Scalar.cmpi .slt c1024_i32 c0_i32_95
  let v241 : BitVec 32 := Scalar.extui v240
  let v242 : BitVec 32 := Scalar.subi v239 v241
  let v243 : BitVec 1 := Scalar.cmpi .ne v237 v242
  let v244 : BitVec 32 := Scalar.remsi v231 c1024_i32
  let c0_i32_96 : BitVec 32 := 0#32
  let v245 : BitVec 1 := Scalar.cmpi .ne v244 c0_i32_96
  let v246 : BitVec 1 := Scalar.andi v243 v245
  let v232 : BitVec 32 := Scalar.divsi v231 c1024_i32
  let c1_i32_97 : BitVec 32 := 1#32
  let v247 : BitVec 32 := Scalar.subi v232 c1_i32_97
  let v248 : BitVec 32 := Scalar.select v246 v247 v232
  let v249 : BitVec 32 := Scalar.subi v248 c0_i32_98
  let c1_i32_100 : BitVec 32 := 1#32
  let v251 : BitVec 32 := Scalar.divsi v249 c1_i32_100
  let v252 : BitVec 32 := Scalar.muli v251 c1_i32_100
  let v253 : BitVec 32 := Scalar.addi c0_i32_98 v252
  let c1_i32_102 : BitVec 32 := 1#32
  let arg17 : BitVec 32 := Scf.iv v253 c1_i32_102 k0_t4
  let c1024_i32_191 : BitVec 32 := 1024#32
  let v479 : BitVec 32 := Scalar.muli arg17 c1024_i32_191
  let v480 : BitVec 32 := Scalar.addi v230 v479
  let v481 : BitVec 32 := v480
  let v482 : Index := Scalar.indexCast v481
  let c0_194 : Index := 0#32
  ![0, 0, v482.toNat, 0]
@[reducible] def k0_t5_loop (i : grid0.Coords) : Scf.Loop 32 :=
  let c0_i32_111 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_91 : BitVec 32 := 0#32
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let c2048_i32_90 : BitVec 32 := 2048#32
  let v229 : BitVec 32 := Scalar.muli v221 c2048_i32_90
  let v230 : BitVec 32 := Scalar.addi c0_i32_91 v229
  let v231 : BitVec 32 := Scalar.subi v195 v230
  let c0_i32_92 : BitVec 32 := 0#32
  let v233 : BitVec 1 := Scalar.cmpi .sgt v231 c0_i32_92
  let v234 : BitVec 32 := Scalar.extui v233
  let c0_i32_93 : BitVec 32 := 0#32
  let v235 : BitVec 1 := Scalar.cmpi .slt v231 c0_i32_93
  let v236 : BitVec 32 := Scalar.extui v235
  let v237 : BitVec 32 := Scalar.subi v234 v236
  let c1024_i32 : BitVec 32 := 1024#32
  let c0_i32_94 : BitVec 32 := 0#32
  let v238 : BitVec 1 := Scalar.cmpi .sgt c1024_i32 c0_i32_94
  let v239 : BitVec 32 := Scalar.extui v238
  let c0_i32_95 : BitVec 32 := 0#32
  let v240 : BitVec 1 := Scalar.cmpi .slt c1024_i32 c0_i32_95
  let v241 : BitVec 32 := Scalar.extui v240
  let v242 : BitVec 32 := Scalar.subi v239 v241
  let v243 : BitVec 1 := Scalar.cmpi .ne v237 v242
  let v244 : BitVec 32 := Scalar.remsi v231 c1024_i32
  let c0_i32_96 : BitVec 32 := 0#32
  let v245 : BitVec 1 := Scalar.cmpi .ne v244 c0_i32_96
  let v246 : BitVec 1 := Scalar.andi v243 v245
  let v232 : BitVec 32 := Scalar.divsi v231 c1024_i32
  let c1_i32_97 : BitVec 32 := 1#32
  let v247 : BitVec 32 := Scalar.subi v232 c1_i32_97
  let v248 : BitVec 32 := Scalar.select v246 v247 v232
  let c1024_i32_103 : BitVec 32 := 1024#32
  let v256 : BitVec 32 := Scalar.muli v248 c1024_i32_103
  let v257 : BitVec 32 := Scalar.addi v230 v256
  let v258 : BitVec 32 := Scalar.subi v195 v257
  let c0_i32_105 : BitVec 32 := 0#32
  let v260 : BitVec 1 := Scalar.cmpi .sgt v258 c0_i32_105
  let v261 : BitVec 32 := Scalar.extui v260
  let c0_i32_106 : BitVec 32 := 0#32
  let v262 : BitVec 1 := Scalar.cmpi .slt v258 c0_i32_106
  let v263 : BitVec 32 := Scalar.extui v262
  let v264 : BitVec 32 := Scalar.subi v261 v263
  let c512_i32_104 : BitVec 32 := 512#32
  let c0_i32_107 : BitVec 32 := 0#32
  let v265 : BitVec 1 := Scalar.cmpi .sgt c512_i32_104 c0_i32_107
  let v266 : BitVec 32 := Scalar.extui v265
  let c0_i32_108 : BitVec 32 := 0#32
  let v267 : BitVec 1 := Scalar.cmpi .slt c512_i32_104 c0_i32_108
  let v268 : BitVec 32 := Scalar.extui v267
  let v269 : BitVec 32 := Scalar.subi v266 v268
  let v270 : BitVec 1 := Scalar.cmpi .ne v264 v269
  let v271 : BitVec 32 := Scalar.remsi v258 c512_i32_104
  let c0_i32_109 : BitVec 32 := 0#32
  let v272 : BitVec 1 := Scalar.cmpi .ne v271 c0_i32_109
  let v273 : BitVec 1 := Scalar.andi v270 v272
  let v259 : BitVec 32 := Scalar.divsi v258 c512_i32_104
  let c1_i32_110 : BitVec 32 := 1#32
  let v274 : BitVec 32 := Scalar.subi v259 c1_i32_110
  let v275 : BitVec 32 := Scalar.select v273 v274 v259
  let v276 : BitVec 32 := Scalar.subi v275 c0_i32_111
  let c1_i32_113 : BitVec 32 := 1#32
  let v278 : BitVec 32 := Scalar.divsi v276 c1_i32_113
  let v279 : BitVec 32 := Scalar.muli v278 c1_i32_113
  let v280 : BitVec 32 := Scalar.addi c0_i32_111 v279
  let c1_i32_114 : BitVec 32 := 1#32
  ⟨c0_i32_111, v280, c1_i32_114⟩
def k0_mult5 (i : grid0.Coords) (k0_t5 : Fin (k0_t5_loop i).trips) : BitVec 32 :=
  let c0_i32_91 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let c2048_i32_90 : BitVec 32 := 2048#32
  let v229 : BitVec 32 := Scalar.muli v221 c2048_i32_90
  let v230 : BitVec 32 := Scalar.addi c0_i32_91 v229
  let v231 : BitVec 32 := Scalar.subi v195 v230
  let c0_i32_92 : BitVec 32 := 0#32
  let v233 : BitVec 1 := Scalar.cmpi .sgt v231 c0_i32_92
  let v234 : BitVec 32 := Scalar.extui v233
  let c0_i32_93 : BitVec 32 := 0#32
  let v235 : BitVec 1 := Scalar.cmpi .slt v231 c0_i32_93
  let v236 : BitVec 32 := Scalar.extui v235
  let v237 : BitVec 32 := Scalar.subi v234 v236
  let c1024_i32 : BitVec 32 := 1024#32
  let c0_i32_94 : BitVec 32 := 0#32
  let v238 : BitVec 1 := Scalar.cmpi .sgt c1024_i32 c0_i32_94
  let v239 : BitVec 32 := Scalar.extui v238
  let c0_i32_95 : BitVec 32 := 0#32
  let v240 : BitVec 1 := Scalar.cmpi .slt c1024_i32 c0_i32_95
  let v241 : BitVec 32 := Scalar.extui v240
  let v242 : BitVec 32 := Scalar.subi v239 v241
  let v243 : BitVec 1 := Scalar.cmpi .ne v237 v242
  let v244 : BitVec 32 := Scalar.remsi v231 c1024_i32
  let c0_i32_96 : BitVec 32 := 0#32
  let v245 : BitVec 1 := Scalar.cmpi .ne v244 c0_i32_96
  let v246 : BitVec 1 := Scalar.andi v243 v245
  let v232 : BitVec 32 := Scalar.divsi v231 c1024_i32
  let c1_i32_97 : BitVec 32 := 1#32
  let v247 : BitVec 32 := Scalar.subi v232 c1_i32_97
  let v248 : BitVec 32 := Scalar.select v246 v247 v232
  let c1024_i32_103 : BitVec 32 := 1024#32
  let v256 : BitVec 32 := Scalar.muli v248 c1024_i32_103
  let v257 : BitVec 32 := Scalar.addi v230 v256
  let c0_i32_111 : BitVec 32 := 0#32
  let c1_i32_114 : BitVec 32 := 1#32
  let arg17 : BitVec 32 := Scf.iv c0_i32_111 c1_i32_114 k0_t5
  let c512_i32_191 : BitVec 32 := 512#32
  let v479 : BitVec 32 := Scalar.muli arg17 c512_i32_191
  let v480 : BitVec 32 := Scalar.addi v257 v479
  v480
def k0_off5 (i : grid0.Coords) (k0_t5 : Fin (k0_t5_loop i).trips) : Fin 4 → Nat :=
  let c0_192 : Index := 0#32
  let c0_193 : Index := 0#32
  let c0_i32_91 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let c2048_i32_90 : BitVec 32 := 2048#32
  let v229 : BitVec 32 := Scalar.muli v221 c2048_i32_90
  let v230 : BitVec 32 := Scalar.addi c0_i32_91 v229
  let v231 : BitVec 32 := Scalar.subi v195 v230
  let c0_i32_92 : BitVec 32 := 0#32
  let v233 : BitVec 1 := Scalar.cmpi .sgt v231 c0_i32_92
  let v234 : BitVec 32 := Scalar.extui v233
  let c0_i32_93 : BitVec 32 := 0#32
  let v235 : BitVec 1 := Scalar.cmpi .slt v231 c0_i32_93
  let v236 : BitVec 32 := Scalar.extui v235
  let v237 : BitVec 32 := Scalar.subi v234 v236
  let c1024_i32 : BitVec 32 := 1024#32
  let c0_i32_94 : BitVec 32 := 0#32
  let v238 : BitVec 1 := Scalar.cmpi .sgt c1024_i32 c0_i32_94
  let v239 : BitVec 32 := Scalar.extui v238
  let c0_i32_95 : BitVec 32 := 0#32
  let v240 : BitVec 1 := Scalar.cmpi .slt c1024_i32 c0_i32_95
  let v241 : BitVec 32 := Scalar.extui v240
  let v242 : BitVec 32 := Scalar.subi v239 v241
  let v243 : BitVec 1 := Scalar.cmpi .ne v237 v242
  let v244 : BitVec 32 := Scalar.remsi v231 c1024_i32
  let c0_i32_96 : BitVec 32 := 0#32
  let v245 : BitVec 1 := Scalar.cmpi .ne v244 c0_i32_96
  let v246 : BitVec 1 := Scalar.andi v243 v245
  let v232 : BitVec 32 := Scalar.divsi v231 c1024_i32
  let c1_i32_97 : BitVec 32 := 1#32
  let v247 : BitVec 32 := Scalar.subi v232 c1_i32_97
  let v248 : BitVec 32 := Scalar.select v246 v247 v232
  let c1024_i32_103 : BitVec 32 := 1024#32
  let v256 : BitVec 32 := Scalar.muli v248 c1024_i32_103
  let v257 : BitVec 32 := Scalar.addi v230 v256
  let c0_i32_111 : BitVec 32 := 0#32
  let c1_i32_114 : BitVec 32 := 1#32
  let arg17 : BitVec 32 := Scf.iv c0_i32_111 c1_i32_114 k0_t5
  let c512_i32_191 : BitVec 32 := 512#32
  let v479 : BitVec 32 := Scalar.muli arg17 c512_i32_191
  let v480 : BitVec 32 := Scalar.addi v257 v479
  let v481 : BitVec 32 := v480
  let v482 : Index := Scalar.indexCast v481
  let c0_194 : Index := 0#32
  ![0, 0, v482.toNat, 0]
@[reducible] def k0_t6_loop (i : grid0.Coords) : Scf.Loop 32 :=
  let c0_i32_111 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_91 : BitVec 32 := 0#32
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let c2048_i32_90 : BitVec 32 := 2048#32
  let v229 : BitVec 32 := Scalar.muli v221 c2048_i32_90
  let v230 : BitVec 32 := Scalar.addi c0_i32_91 v229
  let v231 : BitVec 32 := Scalar.subi v195 v230
  let c0_i32_92 : BitVec 32 := 0#32
  let v233 : BitVec 1 := Scalar.cmpi .sgt v231 c0_i32_92
  let v234 : BitVec 32 := Scalar.extui v233
  let c0_i32_93 : BitVec 32 := 0#32
  let v235 : BitVec 1 := Scalar.cmpi .slt v231 c0_i32_93
  let v236 : BitVec 32 := Scalar.extui v235
  let v237 : BitVec 32 := Scalar.subi v234 v236
  let c1024_i32 : BitVec 32 := 1024#32
  let c0_i32_94 : BitVec 32 := 0#32
  let v238 : BitVec 1 := Scalar.cmpi .sgt c1024_i32 c0_i32_94
  let v239 : BitVec 32 := Scalar.extui v238
  let c0_i32_95 : BitVec 32 := 0#32
  let v240 : BitVec 1 := Scalar.cmpi .slt c1024_i32 c0_i32_95
  let v241 : BitVec 32 := Scalar.extui v240
  let v242 : BitVec 32 := Scalar.subi v239 v241
  let v243 : BitVec 1 := Scalar.cmpi .ne v237 v242
  let v244 : BitVec 32 := Scalar.remsi v231 c1024_i32
  let c0_i32_96 : BitVec 32 := 0#32
  let v245 : BitVec 1 := Scalar.cmpi .ne v244 c0_i32_96
  let v246 : BitVec 1 := Scalar.andi v243 v245
  let v232 : BitVec 32 := Scalar.divsi v231 c1024_i32
  let c1_i32_97 : BitVec 32 := 1#32
  let v247 : BitVec 32 := Scalar.subi v232 c1_i32_97
  let v248 : BitVec 32 := Scalar.select v246 v247 v232
  let c1024_i32_103 : BitVec 32 := 1024#32
  let v256 : BitVec 32 := Scalar.muli v248 c1024_i32_103
  let v257 : BitVec 32 := Scalar.addi v230 v256
  let v258 : BitVec 32 := Scalar.subi v195 v257
  let c0_i32_105 : BitVec 32 := 0#32
  let v260 : BitVec 1 := Scalar.cmpi .sgt v258 c0_i32_105
  let v261 : BitVec 32 := Scalar.extui v260
  let c0_i32_106 : BitVec 32 := 0#32
  let v262 : BitVec 1 := Scalar.cmpi .slt v258 c0_i32_106
  let v263 : BitVec 32 := Scalar.extui v262
  let v264 : BitVec 32 := Scalar.subi v261 v263
  let c512_i32_104 : BitVec 32 := 512#32
  let c0_i32_107 : BitVec 32 := 0#32
  let v265 : BitVec 1 := Scalar.cmpi .sgt c512_i32_104 c0_i32_107
  let v266 : BitVec 32 := Scalar.extui v265
  let c0_i32_108 : BitVec 32 := 0#32
  let v267 : BitVec 1 := Scalar.cmpi .slt c512_i32_104 c0_i32_108
  let v268 : BitVec 32 := Scalar.extui v267
  let v269 : BitVec 32 := Scalar.subi v266 v268
  let v270 : BitVec 1 := Scalar.cmpi .ne v264 v269
  let v271 : BitVec 32 := Scalar.remsi v258 c512_i32_104
  let c0_i32_109 : BitVec 32 := 0#32
  let v272 : BitVec 1 := Scalar.cmpi .ne v271 c0_i32_109
  let v273 : BitVec 1 := Scalar.andi v270 v272
  let v259 : BitVec 32 := Scalar.divsi v258 c512_i32_104
  let c1_i32_110 : BitVec 32 := 1#32
  let v274 : BitVec 32 := Scalar.subi v259 c1_i32_110
  let v275 : BitVec 32 := Scalar.select v273 v274 v259
  let v276 : BitVec 32 := Scalar.subi v275 c0_i32_111
  let c1_i32_113 : BitVec 32 := 1#32
  let v278 : BitVec 32 := Scalar.divsi v276 c1_i32_113
  let v279 : BitVec 32 := Scalar.muli v278 c1_i32_113
  let v280 : BitVec 32 := Scalar.addi c0_i32_111 v279
  let v277 : BitVec 32 := Scalar.addi c0_i32_111 v276
  let c1_i32_115 : BitVec 32 := 1#32
  ⟨v280, v277, c1_i32_115⟩
def k0_mult6 (i : grid0.Coords) (k0_t6 : Fin (k0_t6_loop i).trips) : BitVec 32 :=
  let c0_i32_91 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let c2048_i32_90 : BitVec 32 := 2048#32
  let v229 : BitVec 32 := Scalar.muli v221 c2048_i32_90
  let v230 : BitVec 32 := Scalar.addi c0_i32_91 v229
  let v231 : BitVec 32 := Scalar.subi v195 v230
  let c0_i32_92 : BitVec 32 := 0#32
  let v233 : BitVec 1 := Scalar.cmpi .sgt v231 c0_i32_92
  let v234 : BitVec 32 := Scalar.extui v233
  let c0_i32_93 : BitVec 32 := 0#32
  let v235 : BitVec 1 := Scalar.cmpi .slt v231 c0_i32_93
  let v236 : BitVec 32 := Scalar.extui v235
  let v237 : BitVec 32 := Scalar.subi v234 v236
  let c1024_i32 : BitVec 32 := 1024#32
  let c0_i32_94 : BitVec 32 := 0#32
  let v238 : BitVec 1 := Scalar.cmpi .sgt c1024_i32 c0_i32_94
  let v239 : BitVec 32 := Scalar.extui v238
  let c0_i32_95 : BitVec 32 := 0#32
  let v240 : BitVec 1 := Scalar.cmpi .slt c1024_i32 c0_i32_95
  let v241 : BitVec 32 := Scalar.extui v240
  let v242 : BitVec 32 := Scalar.subi v239 v241
  let v243 : BitVec 1 := Scalar.cmpi .ne v237 v242
  let v244 : BitVec 32 := Scalar.remsi v231 c1024_i32
  let c0_i32_96 : BitVec 32 := 0#32
  let v245 : BitVec 1 := Scalar.cmpi .ne v244 c0_i32_96
  let v246 : BitVec 1 := Scalar.andi v243 v245
  let v232 : BitVec 32 := Scalar.divsi v231 c1024_i32
  let c1_i32_97 : BitVec 32 := 1#32
  let v247 : BitVec 32 := Scalar.subi v232 c1_i32_97
  let v248 : BitVec 32 := Scalar.select v246 v247 v232
  let c1024_i32_103 : BitVec 32 := 1024#32
  let v256 : BitVec 32 := Scalar.muli v248 c1024_i32_103
  let v257 : BitVec 32 := Scalar.addi v230 v256
  let c0_i32_111 : BitVec 32 := 0#32
  let v258 : BitVec 32 := Scalar.subi v195 v257
  let c0_i32_105 : BitVec 32 := 0#32
  let v260 : BitVec 1 := Scalar.cmpi .sgt v258 c0_i32_105
  let v261 : BitVec 32 := Scalar.extui v260
  let c0_i32_106 : BitVec 32 := 0#32
  let v262 : BitVec 1 := Scalar.cmpi .slt v258 c0_i32_106
  let v263 : BitVec 32 := Scalar.extui v262
  let v264 : BitVec 32 := Scalar.subi v261 v263
  let c512_i32_104 : BitVec 32 := 512#32
  let c0_i32_107 : BitVec 32 := 0#32
  let v265 : BitVec 1 := Scalar.cmpi .sgt c512_i32_104 c0_i32_107
  let v266 : BitVec 32 := Scalar.extui v265
  let c0_i32_108 : BitVec 32 := 0#32
  let v267 : BitVec 1 := Scalar.cmpi .slt c512_i32_104 c0_i32_108
  let v268 : BitVec 32 := Scalar.extui v267
  let v269 : BitVec 32 := Scalar.subi v266 v268
  let v270 : BitVec 1 := Scalar.cmpi .ne v264 v269
  let v271 : BitVec 32 := Scalar.remsi v258 c512_i32_104
  let c0_i32_109 : BitVec 32 := 0#32
  let v272 : BitVec 1 := Scalar.cmpi .ne v271 c0_i32_109
  let v273 : BitVec 1 := Scalar.andi v270 v272
  let v259 : BitVec 32 := Scalar.divsi v258 c512_i32_104
  let c1_i32_110 : BitVec 32 := 1#32
  let v274 : BitVec 32 := Scalar.subi v259 c1_i32_110
  let v275 : BitVec 32 := Scalar.select v273 v274 v259
  let v276 : BitVec 32 := Scalar.subi v275 c0_i32_111
  let c1_i32_113 : BitVec 32 := 1#32
  let v278 : BitVec 32 := Scalar.divsi v276 c1_i32_113
  let v279 : BitVec 32 := Scalar.muli v278 c1_i32_113
  let v280 : BitVec 32 := Scalar.addi c0_i32_111 v279
  let c1_i32_115 : BitVec 32 := 1#32
  let arg17 : BitVec 32 := Scf.iv v280 c1_i32_115 k0_t6
  let c512_i32_191 : BitVec 32 := 512#32
  let v479 : BitVec 32 := Scalar.muli arg17 c512_i32_191
  let v480 : BitVec 32 := Scalar.addi v257 v479
  v480
def k0_off6 (i : grid0.Coords) (k0_t6 : Fin (k0_t6_loop i).trips) : Fin 4 → Nat :=
  let c0_192 : Index := 0#32
  let c0_193 : Index := 0#32
  let c0_i32_91 : BitVec 32 := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_78 : BitVec 32 := 0#32
  let v204 : BitVec 32 := Scalar.subi v195 c0_i32_78
  let c0_i32_79 : BitVec 32 := 0#32
  let v206 : BitVec 1 := Scalar.cmpi .sgt v204 c0_i32_79
  let v207 : BitVec 32 := Scalar.extui v206
  let c0_i32_80 : BitVec 32 := 0#32
  let v208 : BitVec 1 := Scalar.cmpi .slt v204 c0_i32_80
  let v209 : BitVec 32 := Scalar.extui v208
  let v210 : BitVec 32 := Scalar.subi v207 v209
  let c2048_i32 : BitVec 32 := 2048#32
  let c0_i32_81 : BitVec 32 := 0#32
  let v211 : BitVec 1 := Scalar.cmpi .sgt c2048_i32 c0_i32_81
  let v212 : BitVec 32 := Scalar.extui v211
  let c0_i32_82 : BitVec 32 := 0#32
  let v213 : BitVec 1 := Scalar.cmpi .slt c2048_i32 c0_i32_82
  let v214 : BitVec 32 := Scalar.extui v213
  let v215 : BitVec 32 := Scalar.subi v212 v214
  let v216 : BitVec 1 := Scalar.cmpi .ne v210 v215
  let v217 : BitVec 32 := Scalar.remsi v204 c2048_i32
  let c0_i32_83 : BitVec 32 := 0#32
  let v218 : BitVec 1 := Scalar.cmpi .ne v217 c0_i32_83
  let v219 : BitVec 1 := Scalar.andi v216 v218
  let v205 : BitVec 32 := Scalar.divsi v204 c2048_i32
  let c1_i32_84 : BitVec 32 := 1#32
  let v220 : BitVec 32 := Scalar.subi v205 c1_i32_84
  let v221 : BitVec 32 := Scalar.select v219 v220 v205
  let c2048_i32_90 : BitVec 32 := 2048#32
  let v229 : BitVec 32 := Scalar.muli v221 c2048_i32_90
  let v230 : BitVec 32 := Scalar.addi c0_i32_91 v229
  let v231 : BitVec 32 := Scalar.subi v195 v230
  let c0_i32_92 : BitVec 32 := 0#32
  let v233 : BitVec 1 := Scalar.cmpi .sgt v231 c0_i32_92
  let v234 : BitVec 32 := Scalar.extui v233
  let c0_i32_93 : BitVec 32 := 0#32
  let v235 : BitVec 1 := Scalar.cmpi .slt v231 c0_i32_93
  let v236 : BitVec 32 := Scalar.extui v235
  let v237 : BitVec 32 := Scalar.subi v234 v236
  let c1024_i32 : BitVec 32 := 1024#32
  let c0_i32_94 : BitVec 32 := 0#32
  let v238 : BitVec 1 := Scalar.cmpi .sgt c1024_i32 c0_i32_94
  let v239 : BitVec 32 := Scalar.extui v238
  let c0_i32_95 : BitVec 32 := 0#32
  let v240 : BitVec 1 := Scalar.cmpi .slt c1024_i32 c0_i32_95
  let v241 : BitVec 32 := Scalar.extui v240
  let v242 : BitVec 32 := Scalar.subi v239 v241
  let v243 : BitVec 1 := Scalar.cmpi .ne v237 v242
  let v244 : BitVec 32 := Scalar.remsi v231 c1024_i32
  let c0_i32_96 : BitVec 32 := 0#32
  let v245 : BitVec 1 := Scalar.cmpi .ne v244 c0_i32_96
  let v246 : BitVec 1 := Scalar.andi v243 v245
  let v232 : BitVec 32 := Scalar.divsi v231 c1024_i32
  let c1_i32_97 : BitVec 32 := 1#32
  let v247 : BitVec 32 := Scalar.subi v232 c1_i32_97
  let v248 : BitVec 32 := Scalar.select v246 v247 v232
  let c1024_i32_103 : BitVec 32 := 1024#32
  let v256 : BitVec 32 := Scalar.muli v248 c1024_i32_103
  let v257 : BitVec 32 := Scalar.addi v230 v256
  let c0_i32_111 : BitVec 32 := 0#32
  let v258 : BitVec 32 := Scalar.subi v195 v257
  let c0_i32_105 : BitVec 32 := 0#32
  let v260 : BitVec 1 := Scalar.cmpi .sgt v258 c0_i32_105
  let v261 : BitVec 32 := Scalar.extui v260
  let c0_i32_106 : BitVec 32 := 0#32
  let v262 : BitVec 1 := Scalar.cmpi .slt v258 c0_i32_106
  let v263 : BitVec 32 := Scalar.extui v262
  let v264 : BitVec 32 := Scalar.subi v261 v263
  let c512_i32_104 : BitVec 32 := 512#32
  let c0_i32_107 : BitVec 32 := 0#32
  let v265 : BitVec 1 := Scalar.cmpi .sgt c512_i32_104 c0_i32_107
  let v266 : BitVec 32 := Scalar.extui v265
  let c0_i32_108 : BitVec 32 := 0#32
  let v267 : BitVec 1 := Scalar.cmpi .slt c512_i32_104 c0_i32_108
  let v268 : BitVec 32 := Scalar.extui v267
  let v269 : BitVec 32 := Scalar.subi v266 v268
  let v270 : BitVec 1 := Scalar.cmpi .ne v264 v269
  let v271 : BitVec 32 := Scalar.remsi v258 c512_i32_104
  let c0_i32_109 : BitVec 32 := 0#32
  let v272 : BitVec 1 := Scalar.cmpi .ne v271 c0_i32_109
  let v273 : BitVec 1 := Scalar.andi v270 v272
  let v259 : BitVec 32 := Scalar.divsi v258 c512_i32_104
  let c1_i32_110 : BitVec 32 := 1#32
  let v274 : BitVec 32 := Scalar.subi v259 c1_i32_110
  let v275 : BitVec 32 := Scalar.select v273 v274 v259
  let v276 : BitVec 32 := Scalar.subi v275 c0_i32_111
  let c1_i32_113 : BitVec 32 := 1#32
  let v278 : BitVec 32 := Scalar.divsi v276 c1_i32_113
  let v279 : BitVec 32 := Scalar.muli v278 c1_i32_113
  let v280 : BitVec 32 := Scalar.addi c0_i32_111 v279
  let c1_i32_115 : BitVec 32 := 1#32
  let arg17 : BitVec 32 := Scf.iv v280 c1_i32_115 k0_t6
  let c512_i32_191 : BitVec 32 := 512#32
  let v479 : BitVec 32 := Scalar.muli arg17 c512_i32_191
  let v480 : BitVec 32 := Scalar.addi v257 v479
  let v481 : BitVec 32 := v480
  let v482 : Index := Scalar.indexCast v481
  let c0_194 : Index := 0#32
  ![0, 0, v482.toNat, 0]
def k0_mult7 (i : grid0.Coords) : BitVec 32 :=
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_116 : BitVec 32 := 0#32
  let v283 : BitVec 32 := Scalar.addi v195 c0_i32_116
  v283
def k0_off7 (i : grid0.Coords) : Fin 4 → Nat :=
  let c0_117 : Index := 0#32
  let c0_118 : Index := 0#32
  let arg2 : BitVec 32 := BitVec.ofNat 32 (i 2).val
  let c256_i32 : BitVec 32 := 256#32
  let v0 : BitVec 32 := Scalar.muli arg2 c256_i32
  let c0_i32_64 : BitVec 32 := 0#32
  let v179 : BitVec 1 := Scalar.cmpi .sgt v0 c0_i32_64
  let v180 : BitVec 32 := Scalar.extui v179
  let c0_i32_65 : BitVec 32 := 0#32
  let v181 : BitVec 1 := Scalar.cmpi .slt v0 c0_i32_65
  let v182 : BitVec 32 := Scalar.extui v181
  let v183 : BitVec 32 := Scalar.subi v180 v182
  let c512_i32 : BitVec 32 := 512#32
  let c0_i32_66 : BitVec 32 := 0#32
  let v184 : BitVec 1 := Scalar.cmpi .sgt c512_i32 c0_i32_66
  let v185 : BitVec 32 := Scalar.extui v184
  let c0_i32_67 : BitVec 32 := 0#32
  let v186 : BitVec 1 := Scalar.cmpi .slt c512_i32 c0_i32_67
  let v187 : BitVec 32 := Scalar.extui v186
  let v188 : BitVec 32 := Scalar.subi v185 v187
  let v189 : BitVec 1 := Scalar.cmpi .ne v183 v188
  let v190 : BitVec 32 := Scalar.remsi v0 c512_i32
  let c0_i32_68 : BitVec 32 := 0#32
  let v191 : BitVec 1 := Scalar.cmpi .ne v190 c0_i32_68
  let v192 : BitVec 1 := Scalar.andi v189 v191
  let v178 : BitVec 32 := Scalar.divsi v0 c512_i32
  let c1_i32_69 : BitVec 32 := 1#32
  let v193 : BitVec 32 := Scalar.subi v178 c1_i32_69
  let v194 : BitVec 32 := Scalar.select v192 v193 v178
  let c512_i32_70 : BitVec 32 := 512#32
  let v195 : BitVec 32 := Scalar.muli v194 c512_i32_70
  let c0_i32_116 : BitVec 32 := 0#32
  let v283 : BitVec 32 := Scalar.addi v195 c0_i32_116
  let v284 : BitVec 32 := v283
  let v285 : Index := Scalar.indexCast v284
  let c0_119 : Index := 0#32
  ![0, 0, v285.toNat, 0]
def k0_mult8 (i : grid0.Coords) : BitVec 32 :=
  let arg2 : BitVec 32 := BitVec.ofNat 32 (i 2).val
  let c256_i32 : BitVec 32 := 256#32
  let v0 : BitVec 32 := Scalar.muli arg2 c256_i32
  let c256_i32_167 : BitVec 32 := 256#32
  let v362 : BitVec 32 := Scalar.addi v0 c256_i32_167
  let c768_i32 : BitVec 32 := 768#32
  let v363 : BitVec 32 := Scalar.subi v362 c768_i32
  let c0_i32_168 : BitVec 32 := 0#32
  let v364 : BitVec 32 := Scalar.maxsi v363 c0_i32_168
  v364
def k0_off8 (i : grid0.Coords) : Fin 4 → Nat :=
  let c0_169 : Index := 0#32
  let c0_170 : Index := 0#32
  let arg2 : BitVec 32 := BitVec.ofNat 32 (i 2).val
  let c256_i32 : BitVec 32 := 256#32
  let v0 : BitVec 32 := Scalar.muli arg2 c256_i32
  let c256_i32_167 : BitVec 32 := 256#32
  let v362 : BitVec 32 := Scalar.addi v0 c256_i32_167
  let c768_i32 : BitVec 32 := 768#32
  let v363 : BitVec 32 := Scalar.subi v362 c768_i32
  let c0_i32_168 : BitVec 32 := 0#32
  let v364 : BitVec 32 := Scalar.maxsi v363 c0_i32_168
  let v365 : BitVec 32 := v364
  let v366 : Index := Scalar.indexCast v365
  let c0_171 : Index := 0#32
  ![0, 0, v366.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "block_mask" => some ⊥
  | "not_causal" => some ⊥
  | "scale_log2e" => some (((8 * (Real.log 2))⁻¹ : ℝ) : EReal)
  | _ => none
-- ==== ReferenceIdeal.lean ====
abbrev S8x4096x8x64 : Shape := ⟨4, ![8, 4096, 8, 64]⟩
abbrev S8x255x2x64 : Shape := ⟨4, ![8, 255, 2, 64]⟩
abbrev S8x4096x2x64 : Shape := ⟨4, ![8, 4096, 2, 64]⟩
abbrev S8x4096x8x3 : Shape := ⟨4, ![8, 4096, 8, 3]⟩
abbrev S4096 : Shape := ⟨1, ![4096]⟩
abbrev S8x4096x2x4x64 : Shape := ⟨5, ![8, 4096, 2, 4, 64]⟩
abbrev S255 : Shape := ⟨1, ![255]⟩
abbrev S_ : Shape := ⟨0, ![]⟩
abbrev S8x2x255x4096x4 : Shape := ⟨5, ![8, 2, 255, 4096, 4]⟩
abbrev S8x2x4x4096x255 : Shape := ⟨5, ![8, 2, 4, 4096, 255]⟩
abbrev S1x255 : Shape := ⟨2, ![1, 255]⟩
abbrev S4096x1 : Shape := ⟨2, ![4096, 1]⟩
abbrev S4096x255 : Shape := ⟨2, ![4096, 255]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S64 : Shape := ⟨1, ![64]⟩
abbrev S255x1 : Shape := ⟨2, ![255, 1]⟩
abbrev S1x64 : Shape := ⟨2, ![1, 64]⟩
abbrev S255x64 : Shape := ⟨2, ![255, 64]⟩
abbrev S8x2x4096x255 : Shape := ⟨4, ![8, 2, 4096, 255]⟩
abbrev S8x2x4096x64 : Shape := ⟨4, ![8, 2, 4096, 64]⟩
abbrev S4096x64 : Shape := ⟨2, ![4096, 64]⟩
abbrev S8x2x4096x16 : Shape := ⟨4, ![8, 2, 4096, 16]⟩
abbrev S8x2x4096x1x16 : Shape := ⟨5, ![8, 2, 4096, 1, 16]⟩
abbrev S64x1 : Shape := ⟨2, ![64, 1]⟩
abbrev S1x1x1x64x1 : Shape := ⟨5, ![1, 1, 1, 64, 1]⟩
abbrev S8x2x4096x64x16 : Shape := ⟨5, ![8, 2, 4096, 64, 16]⟩
abbrev S8x2x4096x64x64 : Shape := ⟨5, ![8, 2, 4096, 64, 64]⟩
abbrev S8x2x4096x4096 : Shape := ⟨4, ![8, 2, 4096, 4096]⟩
abbrev S1x4096 : Shape := ⟨2, ![1, 4096]⟩
abbrev S4096x4096 : Shape := ⟨2, ![4096, 4096]⟩
abbrev S1x1x4096x4096 : Shape := ⟨4, ![1, 1, 4096, 4096]⟩
abbrev S8x2x1x4096x4096 : Shape := ⟨5, ![8, 2, 1, 4096, 4096]⟩
abbrev S8x2x4096x4096x4 : Shape := ⟨5, ![8, 2, 4096, 4096, 4]⟩
abbrev S8x2x4x4096x4096 : Shape := ⟨5, ![8, 2, 4, 4096, 4096]⟩
abbrev S8x4096x2x4x3 : Shape := ⟨5, ![8, 4096, 2, 4, 3]⟩
abbrev S8x4096x2x4x1 : Shape := ⟨5, ![8, 4096, 2, 4, 1]⟩
abbrev S8x4096x512 : Shape := ⟨3, ![8, 4096, 512]⟩

abbrev nBuf : Space → Nat
  | .hbm => 258
  | .vmem => 0
  | .smem => 0
  | _ => 0

abbrev hbmTy0_0 (i : Nat) : BufTy := match i % 128 with
  | 0 => ⟨S8x4096x8x64, .f32⟩
  | 1 => ⟨S8x255x2x64, .f32⟩
  | 2 => ⟨S8x255x2x64, .f32⟩
  | 3 => ⟨S8x4096x2x64, .f32⟩
  | 4 => ⟨S8x4096x2x64, .f32⟩
  | 5 => ⟨S8x4096x2x64, .f32⟩
  | 6 => ⟨S8x4096x2x64, .f32⟩
  | 7 => ⟨S8x4096x8x3, .f32⟩
  | 8 => ⟨S4096, .i32⟩
  | 9 => ⟨S8x4096x2x4x64, .f32⟩
  | 10 => ⟨S255, .i32⟩
  | 11 => ⟨S_, .i32⟩
  | 12 => ⟨S255, .i32⟩
  | 13 => ⟨S255, .i32⟩
  | 14 => ⟨S_, .i32⟩
  | 15 => ⟨S255, .i32⟩
  | 16 => ⟨S255, .i32⟩
  | 17 => ⟨S_, .i32⟩
  | 18 => ⟨S255, .i32⟩
  | 19 => ⟨S255, .i32⟩
  | 20 => ⟨S8x2x255x4096x4, .f32⟩
  | 21 => ⟨S8x2x4x4096x255, .f32⟩
  | 22 => ⟨S_, .f32⟩
  | 23 => ⟨S8x2x4x4096x255, .f32⟩
  | 24 => ⟨S8x2x4x4096x255, .f32⟩
  | 25 => ⟨S1x255, .i32⟩
  | 26 => ⟨S4096x1, .i32⟩
  | 27 => ⟨S4096x255, .i32⟩
  | 28 => ⟨S4096x255, .i32⟩
  | 29 => ⟨S4096x255, .i1⟩
  | 30 => ⟨S_, .f32⟩
  | 31 => ⟨S_, .f32⟩
  | 32 => ⟨S8x2x4x4096x255, .i1⟩
  | 33 => ⟨S8x2x4x4096x255, .f32⟩
  | 34 => ⟨S8x2x4x4096x255, .f32⟩
  | 35 => ⟨S_, .f32⟩
  | 36 => ⟨S8x2x4x4096, .f32⟩
  | 37 => ⟨S8x2x4x4096x1, .f32⟩
  | 38 => ⟨S8x2x4x4096x1, .f32⟩
  | 39 => ⟨S_, .f32⟩
  | 40 => ⟨S8x2x4x4096x1, .f32⟩
  | 41 => ⟨S8x2x4x4096x1, .i1⟩
  | 42 => ⟨S_, .f32⟩
  | 43 => ⟨S_, .f32⟩
  | 44 => ⟨S8x2x4x4096x1, .f32⟩
  | 45 => ⟨S8x2x4x4096x1, .f32⟩
  | 46 => ⟨S8x2x4x4096x255, .f32⟩
  | 47 => ⟨S8x2x4x4096x255, .f32⟩
  | 48 => ⟨S8x2x4x4096x255, .f32⟩
  | 49 => ⟨S_, .f32⟩
  | 50 => ⟨S8x2x4x4096, .f32⟩
  | 51 => ⟨S8x2x4x4096x1, .f32⟩
  | 52 => ⟨S_, .f32⟩
  | 53 => ⟨S8x2x4x4096x1, .f32⟩
  | 54 => ⟨S8x2x4x4096x1, .f32⟩
  | 55 => ⟨S8x2x4x4096x255, .f32⟩
  | 56 => ⟨S8x2x4x4096x255, .f32⟩
  | 57 => ⟨S8x2x64x4x4096, .f32⟩
  | 58 => ⟨S8x4096x2x4x64, .f32⟩
  | 59 => ⟨S64, .i32⟩
  | 60 => ⟨S_, .i32⟩
  | 61 => ⟨S64, .i32⟩
  | 62 => ⟨S64, .i32⟩
  | 63 => ⟨S255x1, .i32⟩
  | 64 => ⟨S1x64, .i32⟩
  | 65 => ⟨S_, .i32⟩
  | 66 => ⟨S1x64, .i32⟩
  | 67 => ⟨S1x64, .i32⟩
  | 68 => ⟨S255x64, .i32⟩
  | 69 => ⟨S255x64, .i32⟩
  | 70 => ⟨S255x64, .i1⟩
  | 71 => ⟨S255x1, .i32⟩
  | 72 => ⟨S_, .i32⟩
  | 73 => ⟨S255x1, .i32⟩
  | 74 => ⟨S255x1, .i32⟩
  | 75 => ⟨S1x64, .i32⟩
  | 76 => ⟨S255x64, .i32⟩
  | 77 => ⟨S255x64, .i32⟩
  | 78 => ⟨S255x64, .i1⟩
  | 79 => ⟨S255x64, .i1⟩
  | 80 => ⟨S255x64, .f32⟩
  | 81 => ⟨S_, .f32⟩
  | 82 => ⟨S8x2x4096x255, .f32⟩
  | 83 => ⟨S8x2x4096x64, .f32⟩
  | 84 => ⟨S64, .i32⟩
  | 85 => ⟨S_, .i32⟩
  | 86 => ⟨S_, .i32⟩
  | 87 => ⟨S4096, .i32⟩
  | 88 => ⟨S4096, .i32⟩
  | 89 => ⟨S4096, .i32⟩
  | 90 => ⟨S_, .i32⟩
  | 91 => ⟨S4096, .i32⟩
  | 92 => ⟨S4096, .i1⟩
  | 93 => ⟨S4096, .i32⟩
  | 94 => ⟨S4096, .i32⟩
  | 95 => ⟨S_, .i32⟩
  | 96 => ⟨S4096, .i32⟩
  | 97 => ⟨S4096, .i1⟩
  | 98 => ⟨S4096, .i1⟩
  | 99 => ⟨S_, .i32⟩
  | 100 => ⟨S4096, .i32⟩
  | 101 => ⟨S4096, .i32⟩
  | 102 => ⟨S4096, .i32⟩
  | 103 => ⟨S1x64, .i32⟩
  | 104 => ⟨S4096x1, .i32⟩
  | 105 => ⟨S4096x64, .i32⟩
  | 106 => ⟨S4096x64, .i32⟩
  | 107 => ⟨S4096x64, .i1⟩
  | 108 => ⟨S1x64, .i32⟩
  | 109 => ⟨S_, .i32⟩
  | 110 => ⟨S1x64, .i32⟩
  | 111 => ⟨S1x64, .i1⟩
  | 112 => ⟨S1x64, .i32⟩
  | 113 => ⟨S4096x1, .i32⟩
  | 114 => ⟨S_, .i32⟩
  | 115 => ⟨S4096x1, .i32⟩
  | 116 => ⟨S4096x1, .i32⟩
  | 117 => ⟨S4096x64, .i32⟩
  | 118 => ⟨S4096x64, .i32⟩
  | 119 => ⟨S4096x64, .i1⟩
  | 120 => ⟨S4096x64, .i1⟩
  | 121 => ⟨S4096x64, .i1⟩
  | 122 => ⟨S4096x64, .i1⟩
  | 123 => ⟨S_, .f32⟩
  | 124 => ⟨S_, .f32⟩
  | 125 => ⟨S8x2x4096x64, .i1⟩
  | 126 => ⟨S8x2x4096x64, .f32⟩
  | 127 => ⟨S8x2x4096x64, .f32⟩
  | _ => ⟨S8x4096x8x64, .f32⟩

abbrev hbmTy0_1 (i : Nat) : BufTy := match i % 128 with
  | 0 => ⟨S_, .f32⟩
  | 1 => ⟨S_, .f32⟩
  | 2 => ⟨S8x2x4096x64, .i1⟩
  | 3 => ⟨S8x2x4096x64, .f32⟩
  | 4 => ⟨S8x2x4096x64, .f32⟩
  | 5 => ⟨S8x2x4096x16, .f32⟩
  | 6 => ⟨S8x2x4096x16, .i32⟩
  | 7 => ⟨S8x2x4096x1x16, .i32⟩
  | 8 => ⟨S64x1, .i32⟩
  | 9 => ⟨S1x1x1x64x1, .i32⟩
  | 10 => ⟨S8x2x4096x64x16, .i32⟩
  | 11 => ⟨S8x2x4096x64x16, .i32⟩
  | 12 => ⟨S8x2x4096x64x16, .i1⟩
  | 13 => ⟨S_, .i1⟩
  | 14 => ⟨S8x2x4096x64, .i1⟩
  | 15 => ⟨S8x2x4096x64x64, .i1⟩
  | 16 => ⟨S8x2x4096x4096, .i1⟩
  | 17 => ⟨S1x4096, .i32⟩
  | 18 => ⟨S4096x1, .i32⟩
  | 19 => ⟨S4096x4096, .i32⟩
  | 20 => ⟨S4096x4096, .i32⟩
  | 21 => ⟨S4096x4096, .i1⟩
  | 22 => ⟨S1x1x4096x4096, .i1⟩
  | 23 => ⟨S8x2x4096x4096, .i1⟩
  | 24 => ⟨S8x2x4096x4096, .i1⟩
  | 25 => ⟨S8x2x1x4096x4096, .i1⟩
  | 26 => ⟨S8x2x4096x4096x4, .f32⟩
  | 27 => ⟨S8x2x4x4096x4096, .f32⟩
  | 28 => ⟨S_, .f32⟩
  | 29 => ⟨S8x2x4x4096x4096, .f32⟩
  | 30 => ⟨S8x2x4x4096x4096, .f32⟩
  | 31 => ⟨S_, .f32⟩
  | 32 => ⟨S_, .f32⟩
  | 33 => ⟨S8x2x4x4096x4096, .i1⟩
  | 34 => ⟨S8x2x4x4096x4096, .f32⟩
  | 35 => ⟨S8x2x4x4096x4096, .f32⟩
  | 36 => ⟨S_, .f32⟩
  | 37 => ⟨S8x2x4x4096, .f32⟩
  | 38 => ⟨S8x2x4x4096x1, .f32⟩
  | 39 => ⟨S8x2x4x4096x1, .f32⟩
  | 40 => ⟨S_, .f32⟩
  | 41 => ⟨S8x2x4x4096x1, .f32⟩
  | 42 => ⟨S8x2x4x4096x1, .i1⟩
  | 43 => ⟨S_, .f32⟩
  | 44 => ⟨S_, .f32⟩
  | 45 => ⟨S8x2x4x4096x1, .f32⟩
  | 46 => ⟨S8x2x4x4096x1, .f32⟩
  | 47 => ⟨S8x2x4x4096x4096, .f32⟩
  | 48 => ⟨S8x2x4x4096x4096, .f32⟩
  | 49 => ⟨S8x2x4x4096x4096, .f32⟩
  | 50 => ⟨S_, .f32⟩
  | 51 => ⟨S8x2x4x4096, .f32⟩
  | 52 => ⟨S8x2x4x4096x1, .f32⟩
  | 53 => ⟨S_, .f32⟩
  | 54 => ⟨S8x2x4x4096x1, .f32⟩
  | 55 => ⟨S8x2x4x4096x1, .f32⟩
  | 56 => ⟨S8x2x4x4096x4096, .f32⟩
  | 57 => ⟨S8x2x4x4096x4096, .f32⟩
  | 58 => ⟨S8x2x64x4x4096, .f32⟩
  | 59 => ⟨S8x4096x2x4x64, .f32⟩
  | 60 => ⟨S1x4096, .i32⟩
  | 61 => ⟨S4096x1, .i32⟩
  | 62 => ⟨S4096x4096, .i32⟩
  | 63 => ⟨S4096x4096, .i32⟩
  | 64 => ⟨S4096x4096, .i1⟩
  | 65 => ⟨S1x4096, .i32⟩
  | 66 => ⟨S4096x1, .i32⟩
  | 67 => ⟨S_, .i32⟩
  | 68 => ⟨S4096x1, .i32⟩
  | 69 => ⟨S4096x1, .i32⟩
  | 70 => ⟨S4096x4096, .i32⟩
  | 71 => ⟨S4096x4096, .i32⟩
  | 72 => ⟨S4096x4096, .i1⟩
  | 73 => ⟨S4096x4096, .i1⟩
  | 74 => ⟨S8x2x4096x4096x4, .f32⟩
  | 75 => ⟨S8x2x4x4096x4096, .f32⟩
  | 76 => ⟨S_, .f32⟩
  | 77 => ⟨S8x2x4x4096x4096, .f32⟩
  | 78 => ⟨S8x2x4x4096x4096, .f32⟩
  | 79 => ⟨S_, .f32⟩
  | 80 => ⟨S_, .f32⟩
  | 81 => ⟨S8x2x4x4096x4096, .i1⟩
  | 82 => ⟨S8x2x4x4096x4096, .f32⟩
  | 83 => ⟨S8x2x4x4096x4096, .f32⟩
  | 84 => ⟨S_, .f32⟩
  | 85 => ⟨S8x2x4x4096, .f32⟩
  | 86 => ⟨S8x2x4x4096x1, .f32⟩
  | 87 => ⟨S8x2x4x4096x1, .f32⟩
  | 88 => ⟨S_, .f32⟩
  | 89 => ⟨S8x2x4x4096x1, .f32⟩
  | 90 => ⟨S8x2x4x4096x1, .i1⟩
  | 91 => ⟨S_, .f32⟩
  | 92 => ⟨S_, .f32⟩
  | 93 => ⟨S8x2x4x4096x1, .f32⟩
  | 94 => ⟨S8x2x4x4096x1, .f32⟩
  | 95 => ⟨S8x2x4x4096x4096, .f32⟩
  | 96 => ⟨S8x2x4x4096x4096, .f32⟩
  | 97 => ⟨S8x2x4x4096x4096, .f32⟩
  | 98 => ⟨S_, .f32⟩
  | 99 => ⟨S8x2x4x4096, .f32⟩
  | 100 => ⟨S8x2x4x4096x1, .f32⟩
  | 101 => ⟨S_, .f32⟩
  | 102 => ⟨S8x2x4x4096x1, .f32⟩
  | 103 => ⟨S8x2x4x4096x1, .f32⟩
  | 104 => ⟨S8x2x4x4096x4096, .f32⟩
  | 105 => ⟨S8x2x4x4096x4096, .f32⟩
  | 106 => ⟨S8x2x64x4x4096, .f32⟩
  | 107 => ⟨S8x4096x2x4x64, .f32⟩
  | 108 => ⟨S8x4096x8x3, .f32⟩
  | 109 => ⟨S8x4096x8x3, .f32⟩
  | 110 => ⟨S_, .f32⟩
  | 111 => ⟨S8x4096x8x3, .f32⟩
  | 112 => ⟨S8x4096x8x3, .f32⟩
  | 113 => ⟨S_, .f32⟩
  | 114 => ⟨S8x4096x8x3, .f32⟩
  | 115 => ⟨S8x4096x8x3, .f32⟩
  | 116 => ⟨S8x4096x2x4x3, .f32⟩
  | 117 => ⟨S8x4096x2x4x1, .f32⟩
  | 118 => ⟨S8x4096x2x4x64, .f32⟩
  | 119 => ⟨S8x4096x2x4x64, .f32⟩
  | 120 => ⟨S8x4096x2x4x1, .f32⟩
  | 121 => ⟨S8x4096x2x4x64, .f32⟩
  | 122 => ⟨S8x4096x2x4x64, .f32⟩
  | 123 => ⟨S8x4096x2x4x64, .f32⟩
  | 124 => ⟨S8x4096x2x4x1, .f32⟩
  | 125 => ⟨S8x4096x2x4x64, .f32⟩
  | 126 => ⟨S8x4096x2x4x64, .f32⟩
  | 127 => ⟨S8x4096x2x4x64, .f32⟩
  | _ => ⟨S8x4096x8x64, .f32⟩

abbrev hbmTy0_2 (i : Nat) : BufTy := match i % 128 with
  | 0 => ⟨S8x4096x512, .f32⟩
  | 1 => ⟨S8x4096x512, .bf16⟩
  | _ => ⟨S8x4096x8x64, .f32⟩

abbrev hbmTy (i : Nat) : BufTy := match i / 128 with
  | 0 => hbmTy0_0 i
  | 1 => hbmTy0_1 i
  | 2 => hbmTy0_2 i
  | _ => ⟨S8x4096x8x64, .f32⟩

abbrev bufTy : (tb : Table) → Fin (tcTables nBuf tb) → BufTy
  | .hbm, ⟨i, _⟩ => hbmTy i
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_c : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_0 : Ref sig .tc := ⟨.hbm, 99, rfl⟩
abbrev main_call2_v12 : Ref sig .tc := ⟨.hbm, 100, rfl⟩
abbrev main_call2_v13 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_c_13 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_c_14 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_15 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_v77 : Ref sig .tc := ⟨.hbm, 127, rfl⟩
abbrev main_cst_16 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_v78 : Ref sig .tc := ⟨.hbm, 132, rfl⟩
abbrev main_values : Ref sig .tc := ⟨.hbm, 133, rfl⟩
abbrev main_indices : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_c_17 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_18 : Ref sig .tc := ⟨.hbm, 156, rfl⟩
abbrev main_v99 : Ref sig .tc := ⟨.hbm, 157, rfl⟩
abbrev main_v100 : Ref sig .tc := ⟨.hbm, 158, rfl⟩
abbrev main_cst_19 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_v101 : Ref sig .tc := ⟨.hbm, 163, rfl⟩
abbrev main_cst_20 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_21 : Ref sig .tc := ⟨.hbm, 168, rfl⟩
abbrev main_v105 : Ref sig .tc := ⟨.hbm, 169, rfl⟩
abbrev main_v106 : Ref sig .tc := ⟨.hbm, 170, rfl⟩
abbrev main_cst_22 : Ref sig .tc := ⟨.hbm, 171, rfl⟩
abbrev main_call6_v0 : Ref sig .tc := ⟨.hbm, 172, rfl⟩
abbrev main_call6_v1 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_cst_23 : Ref sig .tc := ⟨.hbm, 178, rfl⟩
abbrev main_v111 : Ref sig .tc := ⟨.hbm, 179, rfl⟩
abbrev main_v112 : Ref sig .tc := ⟨.hbm, 180, rfl⟩
abbrev main_cst_24 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_c_25 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_cst_26 : Ref sig .tc := ⟨.hbm, 204, rfl⟩
abbrev main_v134 : Ref sig .tc := ⟨.hbm, 205, rfl⟩
abbrev main_v135 : Ref sig .tc := ⟨.hbm, 206, rfl⟩
abbrev main_cst_27 : Ref sig .tc := ⟨.hbm, 207, rfl⟩
abbrev main_call7_v0 : Ref sig .tc := ⟨.hbm, 208, rfl⟩
abbrev main_call7_v1 : Ref sig .tc := ⟨.hbm, 209, rfl⟩
abbrev main_call7_v2 : Ref sig .tc := ⟨.hbm, 210, rfl⟩
abbrev main_v136 : Ref sig .tc := ⟨.hbm, 211, rfl⟩
abbrev main_cst_28 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_cst_29 : Ref sig .tc := ⟨.hbm, 216, rfl⟩
abbrev main_v140 : Ref sig .tc := ⟨.hbm, 217, rfl⟩
abbrev main_v141 : Ref sig .tc := ⟨.hbm, 218, rfl⟩
abbrev main_cst_30 : Ref sig .tc := ⟨.hbm, 219, rfl⟩
abbrev main_call8_v0 : Ref sig .tc := ⟨.hbm, 220, rfl⟩
abbrev main_call8_v1 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_cst_31 : Ref sig .tc := ⟨.hbm, 226, rfl⟩
abbrev main_v146 : Ref sig .tc := ⟨.hbm, 227, rfl⟩
abbrev main_v147 : Ref sig .tc := ⟨.hbm, 228, rfl⟩
abbrev main_cst_32 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_cst_33 : Ref sig .tc := ⟨.hbm, 238, rfl⟩
abbrev main_v156 : Ref sig .tc := ⟨.hbm, 239, rfl⟩
abbrev main_v157 : Ref sig .tc := ⟨.hbm, 240, rfl⟩
abbrev main_cst_34 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x6144 : Shape := ⟨2, ![8, 6144]⟩
abbrev S1024 : Shape := ⟨1, ![1024]⟩
abbrev S1024x4096 : Shape := ⟨2, ![1024, 4096]⟩
abbrev S4096x1024 : Shape := ⟨2, ![4096, 1024]⟩
abbrev S8x6x1024 : Shape := ⟨3, ![8, 6, 1024]⟩
abbrev S1x1024 : Shape := ⟨2, ![1, 1024]⟩
abbrev S1x512x1024 : Shape := ⟨3, ![1, 512, 1024]⟩
abbrev S1x6x1024 : Shape := ⟨3, ![1, 6, 1024]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8x6x1024, .f32⟩
  | .hbm, ⟨7, _⟩ => ⟨S1x1024, .f32⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x512x1024, .f32⟩
  | .local _ .vmem, ⟨9, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x4096x1024 : Shape := ⟨3, ![8, 4096, 1024]⟩
abbrev S8x6144 : Shape := ⟨2, ![8, 6144]⟩
abbrev S1024 : Shape := ⟨1, ![1024]⟩
abbrev S1024x4096 : Shape := ⟨2, ![1024, 4096]⟩
abbrev S4096x1024 : Shape := ⟨2, ![4096, 1024]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6144 : Shape := ⟨2, ![8, 6144]⟩
abbrev S1024 : Shape := ⟨1, ![1024]⟩
abbrev S1024x3864 : Shape := ⟨2, ![1024, 3864]⟩
abbrev S8x4096x512 : Shape := ⟨3, ![8, 4096, 512]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024x2048 : Shape := ⟨2, ![1024, 2048]⟩
abbrev S8x6x1024 : Shape := ⟨3, ![8, 6, 1024]⟩
abbrev S1x1024 : Shape := ⟨2, ![1, 1024]⟩
abbrev S1x512 : Shape := ⟨2, ![1, 512]⟩
abbrev S1x512x1024 : Shape := ⟨3, ![1, 512, 1024]⟩
abbrev S1x6x1024 : Shape := ⟨3, ![1, 6, 1024]⟩
abbrev S1x512x512 : Shape := ⟨3, ![1, 512, 512]⟩
abbrev S1x16x512 : Shape := ⟨3, ![1, 16, 512]⟩
abbrev S512x1 : Shape := ⟨2, ![512, 1]⟩
abbrev S1x1x1024 : Shape := ⟨3, ![1, 1, 1024]⟩
abbrev S512x2048 : Shape := ⟨2, ![512, 2048]⟩
abbrev S512x512 : Shape := ⟨2, ![512, 512]⟩
abbrev S16x512 : Shape := ⟨2, ![16, 512]⟩
abbrev S528x512 : Shape := ⟨2, ![528, 512]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 24
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024, .f32⟩
  | .hbm, ⟨4, _⟩ => ⟨S1024x3864, .f32⟩
  | .hbm, ⟨5, _⟩ => ⟨S8x4096x512, .f32⟩
  | .hbm, ⟨6, _⟩ => ⟨S8x4096x512, .f32⟩
  | .hbm, ⟨7, _⟩ => ⟨S4x128x128, .f32⟩
  | .hbm, ⟨8, _⟩ => ⟨S512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024x2048, .f32⟩
  | .hbm, ⟨13, _⟩ => ⟨S1024x2048, .bf16⟩
  | .hbm, ⟨14, _⟩ => ⟨S8x6x1024, .f32⟩
  | .hbm, ⟨15, _⟩ => ⟨S1x1024, .f32⟩
  | .hbm, ⟨16, _⟩ => ⟨S1x1024, .f32⟩
  | .hbm, ⟨17, _⟩ => ⟨S8x4096x512, .bf16⟩
  | .hbm, ⟨18, _⟩ => ⟨S4x128x128, .bf16⟩
  | .hbm, ⟨19, _⟩ => ⟨S1x512, .f32⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x16x512, .f32⟩
  | .local _ .vmem, ⟨11, _⟩ => ⟨S1x16x512, .f32⟩
  | .local _ .vmem, ⟨12, _⟩ => ⟨S1024x2048, .bf16⟩
  | .local _ .vmem, ⟨13, _⟩ => ⟨S4x128x128, .bf16⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x512x1024, .f32⟩
  | .local _ .vmem, ⟨19, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S8x4096x1024 : Shape := ⟨3, ![8, 4096, 1024]⟩
abbrev S8x6144 : Shape := ⟨2, ![8, 6144]⟩
abbrev S1024 : Shape := ⟨1, ![1024]⟩
abbrev S1024x3864 : Shape := ⟨2, ![1024, 3864]⟩
abbrev S8x4096x512 : Shape := ⟨3, ![8, 4096, 512]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2048 : Shape := ⟨2, ![1024, 2048]⟩
abbrev S8x4096x2048 : Shape := ⟨3, ![8, 4096, 2048]⟩
abbrev S8x4112x512 : Shape := ⟨3, ![8, 4112, 512]⟩
abbrev S4096 : Shape := ⟨1, ![4096]⟩
abbrev S8x4096x128 : Shape := ⟨3, ![8, 4096, 128]⟩
abbrev S1x4096x1 : Shape := ⟨3, ![1, 4096, 1]⟩
abbrev S8x4096x1x128 : Shape := ⟨4, ![8, 4096, 1, 128]⟩
abbrev S8x4096x4x128 : Shape := ⟨4, ![8, 4096, 4, 128]⟩
abbrev S4x128x8x4096 : Shape := ⟨4, ![4, 128, 8, 4096]⟩
abbrev S1x1x512 : Shape := ⟨3, ![1, 1, 512]⟩

abbrev nBuf : Space → Nat
  | .hbm => 198
  | .vmem => 0
  | .smem => 0
  | _ => 0

abbrev hbmTy0_0 (i : Nat) : BufTy := match i % 128 with
  | 0 => ⟨S8x4096x1024, .f32⟩
  | 1 => ⟨S8x6144, .f32⟩
  | 2 => ⟨S1024, .f32⟩
  | 3 => ⟨S1024, .f32⟩
  | 4 => ⟨S1024x3864, .f32⟩
  | 5 => ⟨S8x4096x512, .f32⟩
  | 6 => ⟨S8x4096x512, .f32⟩
  | 7 => ⟨S4x128x128, .f32⟩
  | 8 => ⟨S512, .f32⟩
  | 9 => ⟨S512x1024, .f32⟩
  | 10 => ⟨S512x1024, .f32⟩
  | 11 => ⟨S1024x1024, .f32⟩
  | 12 => ⟨S8x1x6144, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x4096x1024, .f32⟩
  | 20 => ⟨S_, .f32⟩
  | 21 => ⟨S8x4096, .f32⟩
  | 22 => ⟨S8x4096x1, .f32⟩
  | 23 => ⟨S_, .f32⟩
  | 24 => ⟨S8x4096x1, .f32⟩
  | 25 => ⟨S8x4096x1, .f32⟩
  | 26 => ⟨S_, .f32⟩
  | 27 => ⟨S8x4096x1, .f32⟩
  | 28 => ⟨S8x4096x1, .f32⟩
  | 29 => ⟨S8x4096x1, .f32⟩
  | 30 => ⟨S8x4096x1024, .f32⟩
  | 31 => ⟨S8x4096x1024, .f32⟩
  | 32 => ⟨S1x1x1024, .f32⟩
  | 33 => ⟨S8x4096x1024, .f32⟩
  | 34 => ⟨S8x4096x1024, .f32⟩
  | 35 => ⟨S_, .f32⟩
  | 36 => ⟨S8x1x1024, .f32⟩
  | 37 => ⟨S8x1x1024, .f32⟩
  | 38 => ⟨S8x4096x1024, .f32⟩
  | 39 => ⟨S8x4096x1024, .f32⟩
  | 40 => ⟨S8x4096x1024, .f32⟩
  | 41 => ⟨S8x4096x1024, .f32⟩
  | 42 => ⟨S1024x2048, .f32⟩
  | 43 => ⟨S8x4096x2048, .f32⟩
  | 44 => ⟨S_, .i32⟩
  | 45 => ⟨S_, .f32⟩
  | 46 => ⟨S8x4112x512, .f32⟩
  | 47 => ⟨S4096, .i32⟩
  | 48 => ⟨S8x4096x128, .f32⟩
  | 49 => ⟨S8x4096x128, .f32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S4096, .f32⟩
  | 57 => ⟨S1x4096x1, .f32⟩
  | 58 => ⟨S8x4096x128, .f32⟩
  | 59 => ⟨S8x4096x128, .f32⟩
  | 60 => ⟨S8x4096x128, .f32⟩
  | 61 => ⟨S8x4096x128, .f32⟩
  | 62 => ⟨S8x4096x128, .f32⟩
  | 63 => ⟨S8x4096x128, .f32⟩
  | 64 => ⟨S8x4096x128, .f32⟩
  | 65 => ⟨S8x4096x128, .f32⟩
  | 66 => ⟨S8x4096x128, .f32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .f32⟩
  | 74 => ⟨S1x4096x1, .f32⟩
  | 75 => ⟨S8x4096x128, .f32⟩
  | 76 => ⟨S8x4096x128, .f32⟩
  | 77 => ⟨S8x4096x128, .f32⟩
  | 78 => ⟨S8x4096x128, .f32⟩
  | 79 => ⟨S8x4096x128, .f32⟩
  | 80 => ⟨S8x4096x128, .f32⟩
  | 81 => ⟨S8x4096x128, .f32⟩
  | 82 => ⟨S8x4096x128, .f32⟩
  | 83 => ⟨S8x4096x128, .f32⟩
  | 84 => ⟨S8x4096x128, .f32⟩
  | 85 => ⟨S8x4096x128, .f32⟩
  | 86 => ⟨S8x4096x128, .f32⟩
  | 87 => ⟨S8x4096x128, .f32⟩
  | 88 => ⟨S8x4096x128, .f32⟩
  | 89 => ⟨S8x4096x128, .f32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S4096, .f32⟩
  | 97 => ⟨S1x4096x1, .f32⟩
  | 98 => ⟨S8x4096x128, .f32⟩
  | 99 => ⟨S8x4096x128, .f32⟩
  | 100 => ⟨S8x4096x128, .f32⟩
  | 101 => ⟨S8x4096x128, .f32⟩
  | 102 => ⟨S8x4096x128, .f32⟩
  | 103 => ⟨S8x4096x128, .f32⟩
  | 104 => ⟨S8x4096x128, .f32⟩
  | 105 => ⟨S8x4096x128, .f32⟩
  | 106 => ⟨S8x4096x128, .f32⟩
  | 107 => ⟨S8x4096x128, .f32⟩
  | 108 => ⟨S8x4096x128, .f32⟩
  | 109 => ⟨S8x4096x128, .f32⟩
  | 110 => ⟨S8x4096x128, .f32⟩
  | 111 => ⟨S8x4096x128, .f32⟩
  | 112 => ⟨S8x4096x128, .f32⟩
  | 113 => ⟨S8x4096x128, .f32⟩
  | 114 => ⟨S8x4096x128, .f32⟩
  | 115 => ⟨S8x4096x128, .f32⟩
  | 116 => ⟨S8x4096x128, .f32⟩
  | 117 => ⟨S8x4096x128, .f32⟩
  | 118 => ⟨S8x4096x128, .f32⟩
  | 119 => ⟨S8x4096x128, .f32⟩
  | 120 => ⟨S8x4096x128, .f32⟩
  | 121 => ⟨S8x4096x128, .f32⟩
  | 122 => ⟨S8x4096x128, .f32⟩
  | 123 => ⟨S8x4096x128, .f32⟩
  | 124 => ⟨S8x4096x128, .f32⟩
  | 125 => ⟨S_, .i32⟩
  | 126 => ⟨S4096, .i32⟩
  | 127 => ⟨S4096, .i32⟩
  | _ => ⟨S8x4096x1024, .f32⟩

abbrev hbmTy0_1 (i : Nat) : BufTy := match i % 128 with
  | 0 => ⟨S_, .i32⟩
  | 1 => ⟨S4096, .i32⟩
  | 2 => ⟨S4096, .i32⟩
  | 3 => ⟨S4096, .f32⟩
  | 4 => ⟨S1x4096x1, .f32⟩
  | 5 => ⟨S8x4096x128, .f32⟩
  | 6 => ⟨S8x4096x128, .f32⟩
  | 7 => ⟨S8x4096x128, .f32⟩
  | 8 => ⟨S8x4096x128, .f32⟩
  | 9 => ⟨S8x4096x128, .f32⟩
  | 10 => ⟨S8x4096x128, .f32⟩
  | 11 => ⟨S8x4096x128, .f32⟩
  | 12 => ⟨S8x4096x128, .f32⟩
  | 13 => ⟨S8x4096x128, .f32⟩
  | 14 => ⟨S8x4096x128, .f32⟩
  | 15 => ⟨S8x4096x128, .f32⟩
  | 16 => ⟨S8x4096x128, .f32⟩
  | 17 => ⟨S8x4096x128, .f32⟩
  | 18 => ⟨S8x4096x128, .f32⟩
  | 19 => ⟨S8x4096x128, .f32⟩
  | 20 => ⟨S8x4096x128, .f32⟩
  | 21 => ⟨S8x4096x128, .f32⟩
  | 22 => ⟨S8x4096x128, .f32⟩
  | 23 => ⟨S8x4096x128, .f32⟩
  | 24 => ⟨S8x4096x1x128, .f32⟩
  | 25 => ⟨S8x4096x1x128, .f32⟩
  | 26 => ⟨S8x4096x1x128, .f32⟩
  | 27 => ⟨S8x4096x1x128, .f32⟩
  | 28 => ⟨S8x4096x4x128, .f32⟩
  | 29 => ⟨S4x128x8x4096, .f32⟩
  | 30 => ⟨S8x4096x4x128, .f32⟩
  | 31 => ⟨S8x4096x512, .f32⟩
  | 32 => ⟨S1x1x512, .f32⟩
  | 33 => ⟨S8x4096x512, .f32⟩
  | 34 => ⟨S8x4096x512, .f32⟩
  | 35 => ⟨S8x4096x2048, .f32⟩
  | 36 => ⟨S8x4096x2048, .f32⟩
  | 37 => ⟨S_, .f32⟩
  | 38 => ⟨S8x4096x2048, .f32⟩
  | 39 => ⟨S8x4096x2048, .f32⟩
  | 40 => ⟨S_, .f32⟩
  | 41 => ⟨S8x4096x2048, .f32⟩
  | 42 => ⟨S8x4096x2048, .f32⟩
  | 43 => ⟨S8x4096x1024, .f32⟩
  | 44 => ⟨S8x4096x1024, .f32⟩
  | 45 => ⟨S8x4096x1024, .f32⟩
  | 46 => ⟨S8x4096x1024, .f32⟩
  | 47 => ⟨S8x4096x1024, .f32⟩
  | 48 => ⟨S8x4096x1024, .f32⟩
  | 49 => ⟨S8x4096x1024, .f32⟩
  | 50 => ⟨S8x4096x1024, .f32⟩
  | 51 => ⟨S8x4096x1024, .f32⟩
  | 52 => ⟨S_, .f32⟩
  | 53 => ⟨S8x4096, .f32⟩
  | 54 => ⟨S8x4096x1, .f32⟩
  | 55 => ⟨S_, .f32⟩
  | 56 => ⟨S8x4096x1, .f32⟩
  | 57 => ⟨S8x4096x1, .f32⟩
  | 58 => ⟨S_, .f32⟩
  | 59 => ⟨S8x4096x1, .f32⟩
  | 60 => ⟨S8x4096x1, .f32⟩
  | 61 => ⟨S8x4096x1, .f32⟩
  | 62 => ⟨S8x4096x1024, .f32⟩
  | 63 => ⟨S8x4096x1024, .f32⟩
  | 64 => ⟨S1x1x1024, .f32⟩
  | 65 => ⟨S8x4096x1024, .f32⟩
  | 66 => ⟨S8x4096x1024, .f32⟩
  | 67 => ⟨S8x4096x1024, .f32⟩
  | 68 => ⟨S8x4096x1024, .f32⟩
  | 69 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_3 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_5 : Ref sig .tc := ⟨.hbm, 67, rfl⟩
abbrev main_v47 : Ref sig .tc := ⟨.hbm, 68, rfl⟩
abbrev main_v48 : Ref sig .tc := ⟨.hbm, 69, rfl⟩
abbrev main_c_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_7 : Ref sig .tc := ⟨.hbm, 90, rfl⟩
abbrev main_v68 : Ref sig .tc := ⟨.hbm, 91, rfl⟩
abbrev main_v69 : Ref sig .tc := ⟨.hbm, 92, rfl⟩
abbrev main_c_8 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_c_9 : Ref sig .tc := ⟨.hbm, 125, rfl⟩
abbrev main_v101 : Ref sig .tc := ⟨.hbm, 126, rfl⟩
abbrev main_v102 : Ref sig .tc := ⟨.hbm, 127, rfl⟩
abbrev main_c_10 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_cst_11 : Ref sig .tc := ⟨.hbm, 165, rfl⟩
abbrev main_v139 : Ref sig .tc := ⟨.hbm, 166, rfl⟩
abbrev main_v140 : Ref sig .tc := ⟨.hbm, 167, rfl⟩
abbrev main_cst_12 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_cst_13 : Ref sig .tc := ⟨.hbm, 180, rfl⟩
abbrev main_v152 : Ref sig .tc := ⟨.hbm, 181, rfl⟩
abbrev main_v153 : Ref sig .tc := ⟨.hbm, 182, rfl⟩
abbrev main_cst_14 : Ref sig .tc := ⟨.hbm, 183, rfl⟩
abbrev main_v154 : Ref sig .tc := ⟨.hbm, 184, rfl⟩
abbrev main_v155 : Ref sig .tc := ⟨.hbm, 185, rfl⟩
abbrev main_cst_15 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x6144 : Shape := ⟨2, ![8, 6144]⟩
abbrev S1024 : Shape := ⟨1, ![1024]⟩
abbrev S1024x3864 : Shape := ⟨2, ![1024, 3864]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8x6x1024 : Shape := ⟨3, ![8, 6, 1024]⟩
abbrev S1x1024 : Shape := ⟨2, ![1, 1024]⟩
abbrev S1024x512 : Shape := ⟨2, ![1024, 512]⟩
abbrev S1024x128 : Shape := ⟨2, ![1024, 128]⟩
abbrev S1024x24 : Shape := ⟨2, ![1024, 24]⟩
abbrev S1024x2048 : Shape := ⟨2, ![1024, 2048]⟩
abbrev S1024x2x12 : Shape := ⟨3, ![1024, 2, 12]⟩
abbrev S1024x2x64 : Shape := ⟨3, ![1024, 2, 64]⟩
abbrev S1024x1920 : Shape := ⟨2, ![1024, 1920]⟩
abbrev S8x8x4096x128 : Shape := ⟨4, ![8, 8, 4096, 128]⟩
abbrev S8x4096x128 : Shape := ⟨3, ![8, 4096, 128]⟩
abbrev S8x2x4096x128 : Shape := ⟨4, ![8, 2, 4096, 128]⟩
abbrev S8x4096x512 : Shape := ⟨3, ![8, 4096, 512]⟩
abbrev S1x512x1024 : Shape := ⟨3, ![1, 512, 1024]⟩
abbrev S1x6x1024 : Shape := ⟨3, ![1, 6, 1024]⟩
abbrev S512x128 : Shape := ⟨2, ![512, 128]⟩
abbrev S1x8x512x128 : Shape := ⟨4, ![1, 8, 512, 128]⟩
abbrev S1x512x128 : Shape := ⟨3, ![1, 512, 128]⟩
abbrev S1x2x512x128 : Shape := ⟨4, ![1, 2, 512, 128]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S512x1920 : Shape := ⟨2, ![512, 1920]⟩
abbrev S1x1x512x128 : Shape := ⟨4, ![1, 1, 512, 128]⟩
abbrev S512x512 : Shape := ⟨2, ![512, 512]⟩

abbrev nBuf : Space → Nat
  | .hbm => 57
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x3864, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x64, .f32⟩
  | .hbm, ⟨21, _⟩ => ⟨S1x4096x1x64, .f32⟩
  | .hbm, ⟨22, _⟩ => ⟨S1x4096x2x64, .f32⟩
  | .hbm, ⟨23, _⟩ => ⟨S4096x128, .f32⟩
  | .hbm, ⟨24, _⟩ => ⟨S4096x32, .f32⟩
  | .hbm, ⟨25, _⟩ => ⟨S4096x64, .f32⟩
  | .hbm, ⟨26, _⟩ => ⟨S1x4096x1x64, .f32⟩
  | .hbm, ⟨27, _⟩ => ⟨S1x4096x2x64, .f32⟩
  | .hbm, ⟨28, _⟩ => ⟨S4096x128, .f32⟩
  | .hbm, ⟨29, _⟩ => ⟨S8x6x1024, .f32⟩
  | .hbm, ⟨30, _⟩ => ⟨S1x1024, .f32⟩
  | .hbm, ⟨31, _⟩ => ⟨S1024x3864, .bf16⟩
  | .hbm, ⟨32, _⟩ => ⟨S1024x512, .bf16⟩
  | .hbm, ⟨33, _⟩ => ⟨S1024x128, .bf16⟩
  | .hbm, ⟨34, _⟩ => ⟨S1024x128, .bf16⟩
  | .hbm, ⟨35, _⟩ => ⟨S1024x128, .bf16⟩
  | .hbm, ⟨36, _⟩ => ⟨S1024x128, .bf16⟩
  | .hbm, ⟨37, _⟩ => ⟨S1024x128, .bf16⟩
  | .hbm, ⟨38, _⟩ => ⟨S1024x128, .bf16⟩
  | .hbm, ⟨39, _⟩ => ⟨S1024x24, .bf16⟩
  | .hbm, ⟨40, _⟩ => ⟨S1024x512, .bf16⟩
  | .hbm, ⟨41, _⟩ => ⟨S1024x2048, .bf16⟩
  | .hbm, ⟨42, _⟩ => ⟨S1024x2x12, .bf16⟩
  | .hbm, ⟨43, _⟩ => ⟨S_, .i32⟩
  | .hbm, ⟨44, _⟩ => ⟨S_, .bf16⟩
  | .hbm, ⟨45, _⟩ => ⟨S1024x2x64, .bf16⟩
  | .hbm, ⟨46, _⟩ => ⟨S1024x128, .bf16⟩
  | .hbm, ⟨47, _⟩ => ⟨S1024x1920, .bf16⟩
  | .hbm, ⟨48, _⟩ => ⟨S8x8x4096x128, .bf16⟩
  | .hbm, ⟨49, _⟩ => ⟨S8x4096x128, .f32⟩
  | .hbm, ⟨50, _⟩ => ⟨S8x4096x128, .f32⟩
  | .hbm, ⟨51, _⟩ => ⟨S8x2x4096x128, .bf16⟩
  | .hbm, ⟨52, _⟩ => ⟨S8x2x4096x128, .bf16⟩
  | .hbm, ⟨53, _⟩ => ⟨S8x2x4096x128, .bf16⟩
  | .hbm, ⟨54, _⟩ => ⟨S8x2x4096x128, .bf16⟩
  | .hbm, ⟨55, _⟩ => ⟨S8x2x4096x128, .f32⟩
  | .hbm, ⟨56, _⟩ => ⟨S8x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1920, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x8x512x128, .bf16⟩
  | .local _ .vmem, ⟨11, _⟩ => ⟨S1x8x512x128, .bf16⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x2x512x128, .bf16⟩
  | .local _ .vmem, ⟨17, _⟩ => ⟨S1x2x512x128, .bf16⟩
  | .local _ .vmem, ⟨18, _⟩ => ⟨S1x2x512x128, .bf16⟩
  | .local _ .vmem, ⟨19, _⟩ => ⟨S1x2x512x128, .bf16⟩
  | .local _ .vmem, ⟨20, _⟩ => ⟨S1x2x512x128, .bf16⟩
  | .local _ .vmem, ⟨21, _⟩ => ⟨S1x2x512x128, .bf16⟩
  | .local _ .vmem, ⟨22, _⟩ => ⟨S1x2x512x128, .bf16⟩
  | .local _ .vmem, ⟨23, _⟩ => ⟨S1x2x512x128, .bf16⟩
  | .local _ .vmem, ⟨24, _⟩ => ⟨S1x2x512x128, .f32⟩
  | .local _ .vmem, ⟨25, _⟩ => ⟨S1x2x512x128, .f32⟩
  | .local _ .vmem, ⟨26, _⟩ => ⟨S1x512x512, .f32⟩
  | .local _ .vmem, ⟨27, _⟩ => ⟨S1x512x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_c : Ref sig .tc := ⟨.hbm, 43, rfl⟩
abbrev main_call0_v0 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40_0 : Ref sig .tc := ⟨.hbm, 48, rfl⟩
abbrev main_v40_1 : Ref sig .tc := ⟨.hbm, 49, rfl⟩
abbrev main_v40_2 : Ref sig .tc := ⟨.hbm, 50, rfl⟩
abbrev main_v40_3 : Ref sig .tc := ⟨.hbm, 51, rfl⟩
abbrev main_v40_4 : Ref sig .tc := ⟨.hbm, 52, rfl⟩
abbrev main_v40_5 : Ref sig .tc := ⟨.hbm, 53, rfl⟩
abbrev main_v40_6 : Ref sig .tc := ⟨.hbm, 54, rfl⟩
abbrev main_v40_7 : Ref sig .tc := ⟨.hbm, 55, rfl⟩
abbrev main_v40_8 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S8x4096x1024 : Shape := ⟨3, ![8, 4096, 1024]⟩
abbrev S8x6144 : Shape := ⟨2, ![8, 6144]⟩
abbrev S1024 : Shape := ⟨1, ![1024]⟩
abbrev S1024x3864 : Shape := ⟨2, ![1024, 3864]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3864 : Shape := ⟨3, ![8, 4096, 3864]⟩
abbrev S8x4096x512 : Shape := ⟨3, ![8, 4096, 512]⟩
abbrev S8x4096x128 : Shape := ⟨3, ![8, 4096, 128]⟩
abbrev S8x4096x24 : Shape := ⟨3, ![8, 4096, 24]⟩
abbrev S8x4096x2048 : Shape := ⟨3, ![8, 4096, 2048]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S4096x64 : Shape := ⟨2, ![4096, 64]⟩
abbrev S8x4096x2x12 : Shape := ⟨4, ![8, 4096, 2, 12]⟩
abbrev S8x4096x2x64 : Shape := ⟨4, ![8, 4096, 2, 64]⟩
abbrev S8x2x4096x64 : Shape := ⟨4, ![8, 2, 4096, 64]⟩
abbrev S8x4096x8x64 : Shape := ⟨4, ![8, 4096, 8, 64]⟩
abbrev S32 : Shape := ⟨1, ![32]⟩
abbrev S1x32 : Shape := ⟨2, ![1, 32]⟩
abbrev S4096x32 : Shape := ⟨2, ![4096, 32]⟩
abbrev S1x4096x1x32 : Shape := ⟨4, ![1, 4096, 1, 32]⟩
abbrev S8x4096x8x32 : Shape := ⟨4, ![8, 4096, 8, 32]⟩
abbrev S8x8x4096x64 : Shape := ⟨4, ![8, 8, 4096, 64]⟩
abbrev S8x8x4096x128 : Shape := ⟨4, ![8, 8, 4096, 128]⟩
abbrev S8x4096x2x32 : Shape := ⟨4, ![8, 4096, 2, 32]⟩
abbrev S8x2x4096x128 : Shape := ⟨4, ![8, 2, 4096, 128]⟩

abbrev nBuf : Space → Nat
  | .hbm => 239
  | .vmem => 0
  | .smem => 0
  | _ => 0

abbrev hbmTy0_0 (i : Nat) : BufTy := match i % 128 with
  | 0 => ⟨S8x4096x1024, .f32⟩
  | 1 => ⟨S8x6144, .f32⟩
  | 2 => ⟨S1024, .f32⟩
  | 3 => ⟨S1024x3864, .f32⟩
  | 4 => ⟨S8x1x6144, .f32⟩
  | 5 => ⟨S8x1x1024, .f32⟩
  | 6 => ⟨S8x1x1024, .f32⟩
  | 7 => ⟨S8x1x1024, .f32⟩
  | 8 => ⟨S8x1x1024, .f32⟩
  | 9 => ⟨S8x1x1024, .f32⟩
  | 10 => ⟨S8x1x1024, .f32⟩
  | 11 => ⟨S8x4096x1024, .f32⟩
  | 12 => ⟨S_, .f32⟩
  | 13 => ⟨S8x4096, .f32⟩
  | 14 => ⟨S8x4096x1, .f32⟩
  | 15 => ⟨S_, .f32⟩
  | 16 => ⟨S8x4096x1, .f32⟩
  | 17 => ⟨S8x4096x1, .f32⟩
  | 18 => ⟨S_, .f32⟩
  | 19 => ⟨S8x4096x1, .f32⟩
  | 20 => ⟨S8x4096x1, .f32⟩
  | 21 => ⟨S8x4096x1, .f32⟩
  | 22 => ⟨S8x4096x1024, .f32⟩
  | 23 => ⟨S8x4096x1024, .f32⟩
  | 24 => ⟨S1x1x1024, .f32⟩
  | 25 => ⟨S8x4096x1024, .f32⟩
  | 26 => ⟨S8x4096x1024, .f32⟩
  | 27 => ⟨S_, .f32⟩
  | 28 => ⟨S8x1x1024, .f32⟩
  | 29 => ⟨S8x1x1024, .f32⟩
  | 30 => ⟨S8x4096x1024, .f32⟩
  | 31 => ⟨S8x4096x1024, .f32⟩
  | 32 => ⟨S8x4096x1024, .f32⟩
  | 33 => ⟨S8x4096x1024, .f32⟩
  | 34 => ⟨S8x4096x3864, .f32⟩
  | 35 => ⟨S8x4096x512, .f32⟩
  | 36 => ⟨S8x4096x128, .f32⟩
  | 37 => ⟨S8x4096x128, .f32⟩
  | 38 => ⟨S8x4096x128, .f32⟩
  | 39 => ⟨S8x4096x128, .f32⟩
  | 40 => ⟨S8x4096x128, .f32⟩
  | 41 => ⟨S8x4096x128, .f32⟩
  | 42 => ⟨S8x4096x24, .f32⟩
  | 43 => ⟨S8x4096x512, .f32⟩
  | 44 => ⟨S8x4096x2048, .f32⟩
  | 45 => ⟨S4096, .i32⟩
  | 46 => ⟨S4096x1, .i32⟩
  | 47 => ⟨S_, .i32⟩
  | 48 => ⟨S_, .i32⟩
  | 49 => ⟨S4096x1, .i32⟩
  | 50 => ⟨S4096x1, .i32⟩
  | 51 => ⟨S4096x1, .i32⟩
  | 52 => ⟨S_, .i32⟩
  | 53 => ⟨S4096x1, .i32⟩
  | 54 => ⟨S4096x1, .i1⟩
  | 55 => ⟨S4096x1, .i32⟩
  | 56 => ⟨S4096x1, .i32⟩
  | 57 => ⟨S_, .i32⟩
  | 58 => ⟨S4096x1, .i32⟩
  | 59 => ⟨S4096x1, .i1⟩
  | 60 => ⟨S4096x1, .i1⟩
  | 61 => ⟨S_, .i32⟩
  | 62 => ⟨S4096x1, .i32⟩
  | 63 => ⟨S4096x1, .i32⟩
  | 64 => ⟨S4096x1, .i32⟩
  | 65 => ⟨S64, .i32⟩
  | 66 => ⟨S1x64, .i32⟩
  | 67 => ⟨S4096x64, .i32⟩
  | 68 => ⟨S4096x64, .i32⟩
  | 69 => ⟨S4096x64, .i1⟩
  | 70 => ⟨S4096x64, .f32⟩
  | 71 => ⟨S64, .i32⟩
  | 72 => ⟨S1x64, .i32⟩
  | 73 => ⟨S_, .i32⟩
  | 74 => ⟨S1x64, .i32⟩
  | 75 => ⟨S1x64, .i1⟩
  | 76 => ⟨S1x64, .f32⟩
  | 77 => ⟨S8x4096x2x12, .f32⟩
  | 78 => ⟨S_, .i32⟩
  | 79 => ⟨S_, .f32⟩
  | 80 => ⟨S8x4096x2x64, .f32⟩
  | 81 => ⟨S8x2x4096x64, .f32⟩
  | 82 => ⟨S8x4096x8x64, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S4096, .f32⟩
  | 92 => ⟨S4096x1, .f32⟩
  | 93 => ⟨S1x32, .f32⟩
  | 94 => ⟨S4096x32, .f32⟩
  | 95 => ⟨S4096x32, .f32⟩
  | 96 => ⟨S4096x32, .f32⟩
  | 97 => ⟨S4096x32, .f32⟩
  | 98 => ⟨S1x4096x1x32, .f32⟩
  | 99 => ⟨S4096x32, .f32⟩
  | 100 => ⟨S1x4096x1x32, .f32⟩
  | 101 => ⟨S8x4096x8x32, .f32⟩
  | 102 => ⟨S8x4096x8x32, .f32⟩
  | 103 => ⟨S8x4096x8x32, .f32⟩
  | 104 => ⟨S8x4096x8x32, .f32⟩
  | 105 => ⟨S8x4096x8x32, .f32⟩
  | 106 => ⟨S8x4096x8x32, .f32⟩
  | 107 => ⟨S8x4096x8x32, .f32⟩
  | 108 => ⟨S8x4096x8x32, .f32⟩
  | 109 => ⟨S8x4096x8x32, .f32⟩
  | 110 => ⟨S8x4096x8x32, .f32⟩
  | 111 => ⟨S8x4096x8x32, .f32⟩
  | 112 => ⟨S8x4096x8x32, .f32⟩
  | 113 => ⟨S8x4096x8x64, .f32⟩
  | 114 => ⟨S8x8x4096x64, .f32⟩
  | 115 => ⟨S_, .f32⟩
  | 116 => ⟨S8x8x4096x64, .f32⟩
  | 117 => ⟨S8x8x4096x64, .f32⟩
  | 118 => ⟨S8x8x4096x128, .f32⟩
  | 119 => ⟨S8x8x4096x128, .bf16⟩
  | 120 => ⟨S8x4096x2x64, .f32⟩
  | 121 => ⟨S32, .f32⟩
  | 122 => ⟨S32, .f32⟩
  | 123 => ⟨S_, .f32⟩
  | 124 => ⟨S32, .f32⟩
  | 125 => ⟨S32, .f32⟩
  | 126 => ⟨S_, .f32⟩
  | 127 => ⟨S32, .f32⟩
  | _ => ⟨S8x4096x1024, .f32⟩

abbrev hbmTy0_1 (i : Nat) : BufTy := match i % 128 with
  | 0 => ⟨S32, .f32⟩
  | 1 => ⟨S4096, .f32⟩
  | 2 => ⟨S4096x1, .f32⟩
  | 3 => ⟨S1x32, .f32⟩
  | 4 => ⟨S4096x32, .f32⟩
  | 5 => ⟨S4096x32, .f32⟩
  | 6 => ⟨S4096x32, .f32⟩
  | 7 => ⟨S4096x32, .f32⟩
  | 8 => ⟨S1x4096x1x32, .f32⟩
  | 9 => ⟨S4096x32, .f32⟩
  | 10 => ⟨S1x4096x1x32, .f32⟩
  | 11 => ⟨S8x4096x2x32, .f32⟩
  | 12 => ⟨S8x4096x2x32, .f32⟩
  | 13 => ⟨S8x4096x2x32, .f32⟩
  | 14 => ⟨S8x4096x2x32, .f32⟩
  | 15 => ⟨S8x4096x2x32, .f32⟩
  | 16 => ⟨S8x4096x2x32, .f32⟩
  | 17 => ⟨S8x4096x2x32, .f32⟩
  | 18 => ⟨S8x4096x2x32, .f32⟩
  | 19 => ⟨S8x4096x2x32, .f32⟩
  | 20 => ⟨S8x4096x2x32, .f32⟩
  | 21 => ⟨S8x4096x2x32, .f32⟩
  | 22 => ⟨S8x4096x2x32, .f32⟩
  | 23 => ⟨S8x4096x2x64, .f32⟩
  | 24 => ⟨S8x4096x128, .f32⟩
  | 25 => ⟨S8x4096x2x64, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S4096, .f32⟩
  | 35 => ⟨S4096x1, .f32⟩
  | 36 => ⟨S1x32, .f32⟩
  | 37 => ⟨S4096x32, .f32⟩
  | 38 => ⟨S4096x32, .f32⟩
  | 39 => ⟨S4096x32, .f32⟩
  | 40 => ⟨S4096x32, .f32⟩
  | 41 => ⟨S1x4096x1x32, .f32⟩
  | 42 => ⟨S4096x32, .f32⟩
  | 43 => ⟨S1x4096x1x32, .f32⟩
  | 44 => ⟨S8x4096x2x32, .f32⟩
  | 45 => ⟨S8x4096x2x32, .f32⟩
  | 46 => ⟨S8x4096x2x32, .f32⟩
  | 47 => ⟨S8x4096x2x32, .f32⟩
  | 48 => ⟨S8x4096x2x32, .f32⟩
  | 49 => ⟨S8x4096x2x32, .f32⟩
  | 50 => ⟨S8x4096x2x32, .f32⟩
  | 51 => ⟨S8x4096x2x32, .f32⟩
  | 52 => ⟨S8x4096x2x32, .f32⟩
  | 53 => ⟨S8x4096x2x32, .f32⟩
  | 54 => ⟨S8x4096x2x32, .f32⟩
  | 55 => ⟨S8x4096x2x32, .f32⟩
  | 56 => ⟨S8x4096x2x64, .f32⟩
  | 57 => ⟨S8x2x4096x64, .f32⟩
  | 58 => ⟨S8x2x4096x64, .f32⟩
  | 59 => ⟨S8x2x4096x128, .f32⟩
  | 60 => ⟨S8x2x4096x128, .bf16⟩
  | 61 => ⟨S8x4096x2x64, .f32⟩
  | 62 => ⟨S32, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S4096, .f32⟩
  | 71 => ⟨S4096x1, .f32⟩
  | 72 => ⟨S1x32, .f32⟩
  | 73 => ⟨S4096x32, .f32⟩
  | 74 => ⟨S4096x32, .f32⟩
  | 75 => ⟨S4096x32, .f32⟩
  | 76 => ⟨S4096x32, .f32⟩
  | 77 => ⟨S1x4096x1x32, .f32⟩
  | 78 => ⟨S4096x32, .f32⟩
  | 79 => ⟨S1x4096x1x32, .f32⟩
  | 80 => ⟨S8x4096x2x32, .f32⟩
  | 81 => ⟨S8x4096x2x32, .f32⟩
  | 82 => ⟨S8x4096x2x32, .f32⟩
  | 83 => ⟨S8x4096x2x32, .f32⟩
  | 84 => ⟨S8x4096x2x32, .f32⟩
  | 85 => ⟨S8x4096x2x32, .f32⟩
  | 86 => ⟨S8x4096x2x32, .f32⟩
  | 87 => ⟨S8x4096x2x32, .f32⟩
  | 88 => ⟨S8x4096x2x32, .f32⟩
  | 89 => ⟨S8x4096x2x32, .f32⟩
  | 90 => ⟨S8x4096x2x32, .f32⟩
  | 91 => ⟨S8x4096x2x32, .f32⟩
  | 92 => ⟨S8x4096x2x64, .f32⟩
  | 93 => ⟨S8x2x4096x64, .f32⟩
  | 94 => ⟨S_, .f32⟩
  | 95 => ⟨S8x2x4096x64, .f32⟩
  | 96 => ⟨S8x2x4096x64, .f32⟩
  | 97 => ⟨S8x2x4096x128, .f32⟩
  | 98 => ⟨S8x2x4096x128, .bf16⟩
  | 99 => ⟨S8x4096x2x64, .f32⟩
  | 100 => ⟨S8x2x4096x64, .f32⟩
  | 101 => ⟨S8x2x4096x64, .f32⟩
  | 102 => ⟨S8x2x4096x128, .f32⟩
  | 103 => ⟨S8x2x4096x128, .bf16⟩
  | 104 => ⟨S8x4096x2x64, .f32⟩
  | 105 => ⟨S8x2x4096x64, .f32⟩
  | 106 => ⟨S8x2x4096x64, .f32⟩
  | 107 => ⟨S8x2x4096x128, .f32⟩
  | 108 => ⟨S8x2x4096x128, .bf16⟩
  | 109 => ⟨S8x2x4096x64, .f32⟩
  | 110 => ⟨S8x2x4096x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_3 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_4 : Ref sig .tc := ⟨.hbm, 78, rfl⟩
abbrev main_call1_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_5 : Ref sig .tc := ⟨.hbm, 85, rfl⟩
abbrev main_v57 : Ref sig .tc := ⟨.hbm, 86, rfl⟩
abbrev main_v58 : Ref sig .tc := ⟨.hbm, 87, rfl⟩
abbrev main_cst_6 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_7 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_8 : Ref sig .tc := ⟨.hbm, 123, rfl⟩
abbrev main_v92 : Ref sig .tc := ⟨.hbm, 124, rfl⟩
abbrev main_v93 : Ref sig .tc := ⟨.hbm, 125, rfl⟩
abbrev main_cst_9 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_10 : Ref sig .tc := ⟨.hbm, 156, rfl⟩
abbrev main_v123 : Ref sig .tc := ⟨.hbm, 157, rfl⟩
abbrev main_v124 : Ref sig .tc := ⟨.hbm, 158, rfl⟩
abbrev main_cst_11 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_12 : Ref sig .tc := ⟨.hbm, 192, rfl⟩
abbrev main_v157 : Ref sig .tc := ⟨.hbm, 193, rfl⟩
abbrev main_v158 : Ref sig .tc := ⟨.hbm, 194, rfl⟩
abbrev main_cst_13 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_cst_14 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩

abbrev nD : Nat := 1
abbrev τ : Topo := Topo.v7x

variable {F : FTy → Type} [FloatOps F]
-- ==== Proof.Attn.Parts.lean ====
/- The parts of the attention kernel that name no constant, each as its skeleton: `sl_exec` looks the equation of a part up
   by the part's own arguments, and these parts take no table of named constants. -/
module

public import proofs.«01_k».proof.Proof.Gen.KernelIdeal.Frame.Runs

@[expose] public section

set_option maxRecDepth 65536

noncomputable section

namespace Cert.KernelIdeal

open Idealize.ShloMosaic

variable {F : FTy → Type} [FloatOps F]

theorem k0_part1_eq_skeleton : k0_part1 (F := F) = Gen.k0_part1_skel (F := F) := rfl
theorem k0_part2_eq_skeleton : k0_part2 (F := F) = Gen.k0_part2_skel (F := F) := rfl
theorem k0_part3_eq_skeleton : k0_part3 (F := F) = Gen.k0_part3_skel (F := F) := rfl
theorem k0_part4_eq_skeleton : k0_part4 (F := F) = Gen.k0_part4_skel (F := F) := rfl
theorem k0_part5_eq_skeleton : k0_part5 (F := F) = Gen.k0_part5_skel (F := F) := rfl
theorem k0_part6_eq_skeleton : k0_part6 (F := F) = Gen.k0_part6_skel (F := F) := rfl
theorem k0_part7_eq_skeleton : k0_part7 (F := F) = Gen.k0_part7_skel (F := F) := rfl
theorem k0_part8_eq_skeleton : k0_part8 (F := F) = Gen.k0_part8_skel (F := F) := rfl
theorem k0_part9_eq_skeleton : k0_part9 (F := F) = Gen.k0_part9_skel (F := F) := rfl
theorem k0_part10_eq_skeleton : k0_part10 (F := F) = Gen.k0_part10_skel (F := F) := rfl
theorem k0_part11_eq_skeleton : k0_part11 (F := F) = Gen.k0_part11_skel (F := F) := rfl
theorem k0_part12_eq_skeleton : k0_part12 (F := F) = Gen.k0_part12_skel (F := F) := rfl
theorem k0_part13_eq_skeleton : k0_part13 (F := F) = Gen.k0_part13_skel (F := F) := rfl
theorem k0_part14_eq_skeleton : k0_part14 (F := F) = Gen.k0_part14_skel (F := F) := rfl
theorem k0_part15_eq_skeleton : k0_part15 (F := F) = Gen.k0_part15_skel (F := F) := rfl
theorem k0_part16_eq_skeleton : k0_part16 (F := F) = Gen.k0_part16_skel (F := F) := rfl
theorem k0_part17_eq_skeleton : k0_part17 (F := F) = Gen.k0_part17_skel (F := F) := rfl
theorem k0_part18_eq_skeleton : k0_part18 (F := F) = Gen.k0_part18_skel (F := F) := rfl
theorem k0_part19_eq_skeleton : k0_part19 (F := F) = Gen.k0_part19_skel (F := F) := rfl
theorem k0_part20_eq_skeleton : k0_part20 (F := F) = Gen.k0_part20_skel (F := F) := rfl
theorem k0_part21_eq_skeleton : k0_part21 (F := F) = Gen.k0_part21_skel (F := F) := rfl
theorem k0_part22_eq_skeleton : k0_part22 (F := F) = Gen.k0_part22_skel (F := F) := rfl
theorem k0_part23_eq_skeleton : k0_part23 (F := F) = Gen.k0_part23_skel (F := F) := rfl
theorem k0_part24_eq_skeleton : k0_part24 (F := F) = Gen.k0_part24_skel (F := F) := rfl
theorem k0_part25_eq_skeleton : k0_part25 (F := F) = Gen.k0_part25_skel (F := F) := rfl
theorem k0_part26_eq_skeleton : k0_part26 (F := F) = Gen.k0_part26_skel (F := F) := rfl
theorem k0_part27_eq_skeleton : k0_part27 (F := F) = Gen.k0_part27_skel (F := F) := rfl
theorem k0_part28_eq_skeleton : k0_part28 (F := F) = Gen.k0_part28_skel (F := F) := rfl
theorem k0_part29_eq_skeleton : k0_part29 (F := F) = Gen.k0_part29_skel (F := F) := rfl
theorem k0_part30_eq_skeleton : k0_part30 (F := F) = Gen.k0_part30_skel (F := F) := rfl
theorem k0_part31_eq_skeleton : k0_part31 (F := F) = Gen.k0_part31_skel (F := F) := rfl
theorem k0_part32_eq_skeleton : k0_part32 (F := F) = Gen.k0_part32_skel (F := F) := rfl
theorem k0_part33_eq_skeleton : k0_part33 (F := F) = Gen.k0_part33_skel (F := F) := rfl
theorem k0_part34_eq_skeleton : k0_part34 (F := F) = Gen.k0_part34_skel (F := F) := rfl
theorem k0_part35_eq_skeleton : k0_part35 (F := F) = Gen.k0_part35_skel (F := F) := rfl
theorem k0_part36_eq_skeleton : k0_part36 (F := F) = Gen.k0_part36_skel (F := F) := rfl
theorem k0_part37_eq_skeleton : k0_part37 (F := F) = Gen.k0_part37_skel (F := F) := rfl
theorem k0_part38_eq_skeleton : k0_part38 (F := F) = Gen.k0_part38_skel (F := F) := rfl
theorem k0_part39_eq_skeleton : k0_part39 (F := F) = Gen.k0_part39_skel (F := F) := rfl
theorem k0_part40_eq_skeleton : k0_part40 (F := F) = Gen.k0_part40_skel (F := F) := rfl
theorem k0_part41_eq_skeleton : k0_part41 (F := F) = Gen.k0_part41_skel (F := F) := rfl
theorem k0_part42_eq_skeleton : k0_part42 (F := F) = Gen.k0_part42_skel (F := F) := rfl
theorem k0_part43_eq_skeleton : k0_part43 (F := F) = Gen.k0_part43_skel (F := F) := rfl
theorem k0_part44_eq_skeleton : k0_part44 (F := F) = Gen.k0_part44_skel (F := F) := rfl
theorem k0_part45_eq_skeleton : k0_part45 (F := F) = Gen.k0_part45_skel (F := F) := rfl
theorem k0_part46_eq_skeleton : k0_part46 (F := F) = Gen.k0_part46_skel (F := F) := rfl
theorem k0_part47_eq_skeleton : k0_part47 (F := F) = Gen.k0_part47_skel (F := F) := rfl
theorem k0_part48_eq_skeleton : k0_part48 (F := F) = Gen.k0_part48_skel (F := F) := rfl
theorem k0_part49_eq_skeleton : k0_part49 (F := F) = Gen.k0_part49_skel (F := F) := rfl
theorem k0_part50_eq_skeleton : k0_part50 (F := F) = Gen.k0_part50_skel (F := F) := rfl
theorem k0_part51_eq_skeleton : k0_part51 (F := F) = Gen.k0_part51_skel (F := F) := rfl
theorem k0_part52_eq_skeleton : k0_part52 (F := F) = Gen.k0_part52_skel (F := F) := rfl
theorem k0_part53_eq_skeleton : k0_part53 (F := F) = Gen.k0_part53_skel (F := F) := rfl
theorem k0_part54_eq_skeleton : k0_part54 (F := F) = Gen.k0_part54_skel (F := F) := rfl
theorem k0_part55_eq_skeleton : k0_part55 (F := F) = Gen.k0_part55_skel (F := F) := rfl
theorem k0_part56_eq_skeleton : k0_part56 (F := F) = Gen.k0_part56_skel (F := F) := rfl
theorem k0_part57_eq_skeleton : k0_part57 (F := F) = Gen.k0_part57_skel (F := F) := rfl
theorem k0_part58_eq_skeleton : k0_part58 (F := F) = Gen.k0_part58_skel (F := F) := rfl
theorem k0_part59_eq_skeleton : k0_part59 (F := F) = Gen.k0_part59_skel (F := F) := rfl
theorem k0_part60_eq_skeleton : k0_part60 (F := F) = Gen.k0_part60_skel (F := F) := rfl
theorem k0_part61_eq_skeleton : k0_part61 (F := F) = Gen.k0_part61_skel (F := F) := rfl
theorem k0_part62_eq_skeleton : k0_part62 (F := F) = Gen.k0_part62_skel (F := F) := rfl
theorem k0_part63_eq_skeleton : k0_part63 (F := F) = Gen.k0_part63_skel (F := F) := rfl
theorem k0_part64_eq_skeleton : k0_part64 (F := F) = Gen.k0_part64_skel (F := F) := rfl
theorem k0_part65_eq_skeleton : k0_part65 (F := F) = Gen.k0_part65_skel (F := F) := rfl
theorem k0_part66_eq_skeleton : k0_part66 (F := F) = Gen.k0_part66_skel (F := F) := rfl
theorem k0_part67_eq_skeleton : k0_part67 (F := F) = Gen.k0_part67_skel (F := F) := rfl
theorem k0_part68_eq_skeleton : k0_part68 (F := F) = Gen.k0_part68_skel (F := F) := rfl
theorem k0_part69_eq_skeleton : k0_part69 (F := F) = Gen.k0_part69_skel (F := F) := rfl
theorem k0_part70_eq_skeleton : k0_part70 (F := F) = Gen.k0_part70_skel (F := F) := rfl
theorem k0_part71_eq_skeleton : k0_part71 (F := F) = Gen.k0_part71_skel (F := F) := rfl
theorem k0_part72_eq_skeleton : k0_part72 (F := F) = Gen.k0_part72_skel (F := F) := rfl
theorem k0_part73_eq_skeleton : k0_part73 (F := F) = Gen.k0_part73_skel (F := F) := rfl
theorem k0_part74_eq_skeleton : k0_part74 (F := F) = Gen.k0_part74_skel (F := F) := rfl
theorem k0_part75_eq_skeleton : k0_part75 (F := F) = Gen.k0_part75_skel (F := F) := rfl
theorem k0_part76_eq_skeleton : k0_part76 (F := F) = Gen.k0_part76_skel (F := F) := rfl
theorem k0_part77_eq_skeleton : k0_part77 (F := F) = Gen.k0_part77_skel (F := F) := rfl
theorem k0_part78_eq_skeleton : k0_part78 (F := F) = Gen.k0_part78_skel (F := F) := rfl
theorem k0_part79_eq_skeleton : k0_part79 (F := F) = Gen.k0_part79_skel (F := F) := rfl
theorem k0_part80_eq_skeleton : k0_part80 (F := F) = Gen.k0_part80_skel (F := F) := rfl
theorem k0_part81_eq_skeleton : k0_part81 (F := F) = Gen.k0_part81_skel (F := F) := rfl
theorem k0_part82_eq_skeleton : k0_part82 (F := F) = Gen.k0_part82_skel (F := F) := rfl
theorem k0_part83_eq_skeleton : k0_part83 (F := F) = Gen.k0_part83_skel (F := F) := rfl
theorem k0_part84_eq_skeleton : k0_part84 (F := F) = Gen.k0_part84_skel (F := F) := rfl
theorem k0_part85_eq_skeleton : k0_part85 (F := F) = Gen.k0_part85_skel (F := F) := rfl
theorem k0_part86_eq_skeleton : k0_part86 (F := F) = Gen.k0_part86_skel (F := F) := rfl
theorem k0_part87_eq_skeleton : k0_part87 (F := F) = Gen.k0_part87_skel (F := F) := rfl
theorem k0_part88_eq_skeleton : k0_part88 (F := F) = Gen.k0_part88_skel (F := F) := rfl
theorem k0_part89_eq_skeleton : k0_part89 (F := F) = Gen.k0_part89_skel (F := F) := rfl
theorem k0_part90_eq_skeleton : k0_part90 (F := F) = Gen.k0_part90_skel (F := F) := rfl
theorem k0_part91_eq_skeleton : k0_part91 (F := F) = Gen.k0_part91_skel (F := F) := rfl
theorem k0_part92_eq_skeleton : k0_part92 (F := F) = Gen.k0_part92_skel (F := F) := rfl
theorem k0_part93_eq_skeleton : k0_part93 (F := F) = Gen.k0_part93_skel (F := F) := rfl
theorem k0_part94_eq_skeleton : k0_part94 (F := F) = Gen.k0_part94_skel (F := F) := rfl
theorem k0_part96_eq_skeleton : k0_part96 (F := F) = Gen.k0_part96_skel (F := F) := rfl
theorem k0_part98_eq_skeleton : k0_part98 (F := F) = Gen.k0_part98_skel (F := F) := rfl
theorem k0_part100_eq_skeleton : k0_part100 (F := F) = Gen.k0_part100_skel (F := F) := rfl
theorem k0_part101_eq_skeleton : k0_part101 (F := F) = Gen.k0_part101_skel (F := F) := rfl
theorem k0_part102_eq_skeleton : k0_part102 (F := F) = Gen.k0_part102_skel (F := F) := rfl
theorem k0_part103_eq_skeleton : k0_part103 (F := F) = Gen.k0_part103_skel (F := F) := rfl
theorem k0_part104_eq_skeleton : k0_part104 (F := F) = Gen.k0_part104_skel (F := F) := rfl
theorem k0_part105_eq_skeleton : k0_part105 (F := F) = Gen.k0_part105_skel (F := F) := rfl

end Cert.KernelIdeal

end
-- ==== Proof.Attn.RunA.lean ====
/- The attention kernel's body in case A, run through its parts' skeletons. -/
module

public import proofs.«01_k».proof.Proof.Attn.Parts

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1824000 in
/-- What the body's stores leave in each output's staging memref, as pieces (last first) IN CASE A (`scf.if` 0 taken, `scf.if` 1 not taken, `scf.if` 2 not taken, `scf.if` 3 not taken, `scf.if` 4 not taken, `scf.if` 5 not taken, `scf.if` 6 not taken, `scf.if` 7 not taken: points 0, 1, … 241: 32 of 256), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) :
    { L9 : List (View.Piece (Elt F) S1x256x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_nsa_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_nsa_attention_eq_skeleton]; unfold cc0_nsa_attention_skel
    simp only [k0_part106_eq_skeleton, k0_part95_eq_skeleton, k0_part96_eq_skeleton, k0_part97_eq_skeleton, k0_part98_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Attn.RunB.lean ====
/- The attention kernel's body in case B, run through its parts' skeletons. -/
module

public import proofs.«01_k».proof.Proof.Attn.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2124000 in
/-- What the body's stores leave in each output's staging memref, as pieces (last first) IN CASE B (`scf.if` 0 taken, `scf.if` 1 taken, `scf.if` 2 not taken, `scf.if` 3 not taken, `scf.if` 4 not taken, `scf.if` 5 not taken, `scf.if` 6 not taken, `scf.if` 7 not taken: points 2, 3, … 243: 32 of 256), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) :
    { L9 : List (View.Piece (Elt F) S1x256x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_nsa_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_nsa_attention_eq_skeleton]; unfold cc0_nsa_attention_skel
    simp only [k0_part106_eq_skeleton, k0_part95_eq_skeleton, k0_part96_eq_skeleton, k0_part97_eq_skeleton, k0_part98_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Attn.RunC.lean ====
/- The attention kernel's body in case C, run through its parts' skeletons. -/
module

public import proofs.«01_k».proof.Proof.Attn.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2424000 in
/-- What the body's stores leave in each output's staging memref, as pieces (last first) IN CASE C (`scf.if` 0 taken, `scf.if` 1 taken, `scf.if` 2 taken, `scf.if` 3 not taken, `scf.if` 4 not taken, `scf.if` 5 not taken, `scf.if` 6 not taken, `scf.if` 7 not taken: points 4, 5, … 245: 32 of 256), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : ¬cond0_3 i) (hc4 : ¬cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) :
    { L9 : List (View.Piece (Elt F) S1x256x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_nsa_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_nsa_attention_eq_skeleton]; unfold cc0_nsa_attention_skel
    simp only [k0_part106_eq_skeleton, k0_part95_eq_skeleton, k0_part96_eq_skeleton, k0_part97_eq_skeleton, k0_part98_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Attn.RunD.lean ====
/- The attention kernel's body in case D, run through its parts' skeletons. -/
module

public import proofs.«01_k».proof.Proof.Attn.RunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2724000 in
/-- What the body's stores leave in each output's staging memref, as pieces (last first) IN CASE D (`scf.if` 0 taken, `scf.if` 1 taken, `scf.if` 2 taken, `scf.if` 3 taken, `scf.if` 4 not taken, `scf.if` 5 not taken, `scf.if` 6 not taken, `scf.if` 7 not taken: points 6, 7, … 247: 32 of 256), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : ¬cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) :
    { L9 : List (View.Piece (Elt F) S1x256x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_nsa_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_nsa_attention_eq_skeleton]; unfold cc0_nsa_attention_skel
    simp only [k0_part106_eq_skeleton, k0_part95_eq_skeleton, k0_part96_eq_skeleton, k0_part97_eq_skeleton, k0_part98_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Attn.RunE.lean ====
/- The attention kernel's body in case E, run through its parts' skeletons. -/
module

public import proofs.«01_k».proof.Proof.Attn.RunD

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3028000 in
/-- What the body's stores leave in each output's staging memref, as pieces (last first) IN CASE E (`scf.if` 0 taken, `scf.if` 1 taken, `scf.if` 2 taken, `scf.if` 3 taken, `scf.if` 4 taken, `scf.if` 5 not taken, `scf.if` 6 not taken, `scf.if` 7 not taken: points 8, 9, … 249: 32 of 256), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_E (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) :
    { L9 : List (View.Piece (Elt F) S1x256x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_nsa_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_nsa_attention_eq_skeleton]; unfold cc0_nsa_attention_skel
    simp only [k0_part106_eq_skeleton, k0_part95_eq_skeleton, k0_part96_eq_skeleton, k0_part97_eq_skeleton, k0_part98_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Attn.RunF.lean ====
/- The attention kernel's body in case F, run through its parts' skeletons. -/
module

public import proofs.«01_k».proof.Proof.Attn.RunE

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3340000 in
/-- What the body's stores leave in each output's staging memref, as pieces (last first) IN CASE F (`scf.if` 0 taken, `scf.if` 1 taken, `scf.if` 2 taken, `scf.if` 3 taken, `scf.if` 4 taken, `scf.if` 5 taken, `scf.if` 6 not taken, `scf.if` 7 not taken: points 10, 11, … 251: 32 of 256), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_F (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : cond0_4 i) (hc5 : cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) :
    { L9 : List (View.Piece (Elt F) S1x256x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_nsa_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_nsa_attention_eq_skeleton]; unfold cc0_nsa_attention_skel
    simp only [k0_part106_eq_skeleton, k0_part95_eq_skeleton, k0_part96_eq_skeleton, k0_part97_eq_skeleton, k0_part98_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Attn.RunG.lean ====
/- The attention kernel's body in case G, run through its parts' skeletons. -/
module

public import proofs.«01_k».proof.Proof.Attn.RunF

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3644000 in
/-- What the body's stores leave in each output's staging memref, as pieces (last first) IN CASE G (`scf.if` 0 taken, `scf.if` 1 taken, `scf.if` 2 taken, `scf.if` 3 taken, `scf.if` 4 taken, `scf.if` 5 taken, `scf.if` 6 taken, `scf.if` 7 not taken: points 12, 13, … 253: 32 of 256), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_G (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : cond0_4 i) (hc5 : cond0_5 i) (hc6 : cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) :
    { L9 : List (View.Piece (Elt F) S1x256x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_nsa_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_nsa_attention_eq_skeleton]; unfold cc0_nsa_attention_skel
    simp only [k0_part106_eq_skeleton, k0_part95_eq_skeleton, k0_part96_eq_skeleton, k0_part97_eq_skeleton, k0_part98_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part99_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Attn.RunH.lean ====
/- The attention kernel's body in case H, run through its parts' skeletons. -/
module

public import proofs.«01_k».proof.Proof.Attn.RunG

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3948000 in
/-- What the body's stores leave in each output's staging memref, as pieces (last first) IN CASE H (`scf.if` 0 taken, `scf.if` 1 taken, `scf.if` 2 taken, `scf.if` 3 taken, `scf.if` 4 taken, `scf.if` 5 taken, `scf.if` 6 taken, `scf.if` 7 taken: points 14, 15, … 255: 32 of 256), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_H (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : cond0_4 i) (hc5 : cond0_5 i) (hc6 : cond0_6 i) (hc7 : cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) :
    { L9 : List (View.Piece (Elt F) S1x256x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_nsa_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_nsa_attention_eq_skeleton]; unfold cc0_nsa_attention_skel
    simp only [k0_part106_eq_skeleton, k0_part95_eq_skeleton, k0_part96_eq_skeleton, k0_part97_eq_skeleton, k0_part98_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part99_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Attn.Frame.lean ====
/- The attention kernel's frame: what each case leaves in the output, point by point, and the run of the whole program. -/
module

public import proofs.«01_k».proof.Proof.Attn.RunH
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 9 tile its block (1 store of `S1x256x256`, checked by the kernel's evaluation: Lib/Ring.lean `Piece.tiledL`, linear in the pieces, through a loop's `@[irreducible]` trip theorem too), so they cover it. -/
theorem cover0_A_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) (y : S1x256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1 S1x256x256.size (by sl_kernel_rfl) y

/-- What case A leaves in output 9's staging buffer: its pieces read back over junk. -/
def out0_A_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) : Vec F S1x256x256 .bf16 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1)

/-- Case B's pieces for output 9 tile its block (1 store of `S1x256x256`, checked by the kernel's evaluation: Lib/Ring.lean `Piece.tiledL`, linear in the pieces, through a loop's `@[irreducible]` trip theorem too), so they cover it. -/
theorem cover0_B_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) (y : S1x256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1 S1x256x256.size (by sl_kernel_rfl) y

/-- What case B leaves in output 9's staging buffer: its pieces read back over junk. -/
def out0_B_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) : Vec F S1x256x256 .bf16 :=
  VO0_9.read (Elt F) (VO0_9.writes (Elt F) VO0_9.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1)

/-- Case C's pieces for output 9 tile its block (1 store of `S1x256x256`, checked by the kernel's evaluation: Lib/Ring.lean `Piece.tiledL`, linear in the pieces, through a loop's `@[irreducible]` trip theorem too), so they cover it. -/
theorem cover0_C_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : ¬cond0_3 i) (hc4 : ¬cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) (y : S1x256x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1 S1x256x256.size (by sl_kernel_rfl) y

/-- What case C leaves in output 9's staging buffer: its pieces read back over junk. -/
def out0_C_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : ¬cond0_3 i) (hc4 : ¬cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) : Vec F S1x256x256 .bf16 :=
  VO0_9.read (Elt F) (VO0_9.writes (Elt F) VO0_9.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1)

/-- Case D's pieces for output 9 tile its block (1 store of `S1x256x256`, checked by the kernel's evaluation: Lib/Ring.lean `Piece.tiledL`, linear in the pieces, through a loop's `@[irreducible]` trip theorem too), so they cover it. -/
theorem cover0_D_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : ¬cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) (y : S1x256x256.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1 S1x256x256.size (by sl_kernel_rfl) y

/-- What case D leaves in output 9's staging buffer: its pieces read back over junk. -/
def out0_D_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : ¬cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) : Vec F S1x256x256 .bf16 :=
  VO0_9.read (Elt F) (VO0_9.writes (Elt F) VO0_9.junk (kernelRun0_D c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1)

/-- Case E's pieces for output 9 tile its block (1 store of `S1x256x256`, checked by the kernel's evaluation: Lib/Ring.lean `Piece.tiledL`, linear in the pieces, through a loop's `@[irreducible]` trip theorem too), so they cover it. -/
theorem cover0_E_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) (y : S1x256x256.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1 S1x256x256.size (by sl_kernel_rfl) y

/-- What case E leaves in output 9's staging buffer: its pieces read back over junk. -/
def out0_E_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : cond0_4 i) (hc5 : ¬cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) : Vec F S1x256x256 .bf16 :=
  VO0_9.read (Elt F) (VO0_9.writes (Elt F) VO0_9.junk (kernelRun0_E c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1)

/-- Case F's pieces for output 9 tile its block (1 store of `S1x256x256`, checked by the kernel's evaluation: Lib/Ring.lean `Piece.tiledL`, linear in the pieces, through a loop's `@[irreducible]` trip theorem too), so they cover it. -/
theorem cover0_F_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : cond0_4 i) (hc5 : cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) (y : S1x256x256.Idx) :
    ∃ pc ∈ (kernelRun0_F c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1, y ∈ pc.1.set :=
  View.cover_of_tiledL (kernelRun0_F c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1 S1x256x256.size (by sl_kernel_rfl) y

/-- What case F leaves in output 9's staging buffer: its pieces read back over junk. -/
def out0_F_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : cond0_4 i) (hc5 : cond0_5 i) (hc6 : ¬cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) : Vec F S1x256x256 .bf16 :=
  VO0_9.read (Elt F) (VO0_9.writes (Elt F) VO0_9.junk (kernelRun0_F c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1)

/-- Case G's pieces for output 9 tile its block (1 store of `S1x256x256`, checked by the kernel's evaluation: Lib/Ring.lean `Piece.tiledL`, linear in the pieces, through a loop's `@[irreducible]` trip theorem too), so they cover it. -/
theorem cover0_G_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : cond0_4 i) (hc5 : cond0_5 i) (hc6 : cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) (y : S1x256x256.Idx) :
    ∃ pc ∈ (kernelRun0_G c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1, y ∈ pc.1.set :=
  View.cover_of_tiledL (kernelRun0_G c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1 S1x256x256.size (by sl_kernel_rfl) y

/-- What case G leaves in output 9's staging buffer: its pieces read back over junk. -/
def out0_G_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : cond0_4 i) (hc5 : cond0_5 i) (hc6 : cond0_6 i) (hc7 : ¬cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) : Vec F S1x256x256 .bf16 :=
  VO0_9.read (Elt F) (VO0_9.writes (Elt F) VO0_9.junk (kernelRun0_G c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1)

/-- Case H's pieces for output 9 tile its block (1 store of `S1x256x256`, checked by the kernel's evaluation: Lib/Ring.lean `Piece.tiledL`, linear in the pieces, through a loop's `@[irreducible]` trip theorem too), so they cover it. -/
theorem cover0_H_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : cond0_4 i) (hc5 : cond0_5 i) (hc6 : cond0_6 i) (hc7 : cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) (y : S1x256x256.Idx) :
    ∃ pc ∈ (kernelRun0_H c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1, y ∈ pc.1.set :=
  View.cover_of_tiledL (kernelRun0_H c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1 S1x256x256.size (by sl_kernel_rfl) y

/-- What case H leaves in output 9's staging buffer: its pieces read back over junk. -/
def out0_H_9 (c : Dev nD) (i : grid0.Coords) (arg3 : Memref sig .tc .vmem S1x4x256x128 .bf16) (harg3 : arg3.IsWhole) (arg4 : Memref sig .tc .vmem S1x1x256x128 .bf16) (harg4 : arg4.IsWhole) (arg5 : Memref sig .tc .vmem S1x1x256x128 .bf16) (harg5 : arg5.IsWhole) (arg6 : Memref sig .tc .vmem S1x1x4096x128 .bf16) (harg6 : arg6.IsWhole) (arg7 : Memref sig .tc .vmem S1x1x4096x128 .bf16) (harg7 : arg7.IsWhole) (arg8 : Memref sig .tc .vmem S1x1x4096x128 .bf16) (harg8 : arg8.IsWhole) (arg9 : Memref sig .tc .vmem S1x1x4096x128 .bf16) (harg9 : arg9.IsWhole) (arg10 : Memref sig .tc .vmem S1x1x256x128 .f32) (harg10 : arg10.IsWhole) (arg11 : Memref sig .tc .vmem S64x256 .bf16) (harg11 : arg11.IsWhole) (arg12 : Memref sig .tc .vmem S1x256x256 .bf16) (harg12 : arg12.IsWhole) (arg13 : Memref sig .tc .vmem S64x256 .f32) (harg13 : arg13.IsWhole) (arg14 : Memref sig .tc .vmem S64x256 .f32) (harg14 : arg14.IsWhole) (arg15 : Memref sig .tc .vmem S1024x128 .f32) (harg15 : arg15.IsWhole) (arg16 : Memref sig .tc .vmem S4x256x128 .f32) (harg16 : arg16.IsWhole) (hc0 : cond0_0 i) (hc1 : cond0_1 i) (hc2 : cond0_2 i) (hc3 : cond0_3 i) (hc4 : cond0_4 i) (hc5 : cond0_5 i) (hc6 : cond0_6 i) (hc7 : cond0_7 i)
    (x0 : Vec F S1x4x256x128 .bf16) (x1 : Vec F S1x1x256x128 .bf16) (x2 : Vec F S1x1x256x128 .bf16) (x3 : Vec F S1x1x4096x128 .bf16) (x4 : Vec F S1x1x4096x128 .bf16) (x5 : Vec F S1x1x4096x128 .bf16) (x6 : Vec F S1x1x4096x128 .bf16) (x7 : Vec F S1x1x256x128 .f32) (x8 : Vec F S64x256 .bf16) : Vec F S1x256x256 .bf16 :=
  VO0_9.read (Elt F) (VO0_9.writes (Elt F) VO0_9.junk (kernelRun0_H c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 hc7 x0 x1 x2 x3 x4 x5 x6 x7 x8).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x256 .bf16
  | 0, hn => out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) (hcond0_0 ⟨0, hn⟩) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (fun h => (fun h => by (try dsimp only at h); omega) ((hcond0_6 ⟨0, hn⟩).mp h)) (fun h => (fun h => by (try dsimp only at h); omega) ((hcond0_7 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩)
  | n + 1, hn =>
    if h1 : 2 ≤ (n + 1) % 16 then
      if h2 : 4 ≤ (n + 1) % 16 then
        if h3 : 6 ≤ (n + 1) % 16 then
          if h4 : 8 ≤ (n + 1) % 16 then
            if h5 : 10 ≤ (n + 1) % 16 then
              if h6 : 12 ≤ (n + 1) % 16 then
                if h7 : 14 ≤ (n + 1) % 16 then
                  out0_H_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (hcond0_0 ⟨n + 1, hn⟩) ((hcond0_1 ⟨n + 1, hn⟩).mpr h1) ((hcond0_2 ⟨n + 1, hn⟩).mpr h2) ((hcond0_3 ⟨n + 1, hn⟩).mpr h3) ((hcond0_4 ⟨n + 1, hn⟩).mpr h4) ((hcond0_5 ⟨n + 1, hn⟩).mpr h5) ((hcond0_6 ⟨n + 1, hn⟩).mpr h6) ((hcond0_7 ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
                else
                  out0_G_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (hcond0_0 ⟨n + 1, hn⟩) ((hcond0_1 ⟨n + 1, hn⟩).mpr h1) ((hcond0_2 ⟨n + 1, hn⟩).mpr h2) ((hcond0_3 ⟨n + 1, hn⟩).mpr h3) ((hcond0_4 ⟨n + 1, hn⟩).mpr h4) ((hcond0_5 ⟨n + 1, hn⟩).mpr h5) ((hcond0_6 ⟨n + 1, hn⟩).mpr h6) (fun h => h7 ((hcond0_7 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
              else
                if h7 : 14 ≤ (n + 1) % 16 then
                  False.elim (by have hN : n + 1 < 256 := lt_of_lt_of_eq hn (show cfg0.N = 256 from N_0); omega)
                else
                  out0_F_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (hcond0_0 ⟨n + 1, hn⟩) ((hcond0_1 ⟨n + 1, hn⟩).mpr h1) ((hcond0_2 ⟨n + 1, hn⟩).mpr h2) ((hcond0_3 ⟨n + 1, hn⟩).mpr h3) ((hcond0_4 ⟨n + 1, hn⟩).mpr h4) ((hcond0_5 ⟨n + 1, hn⟩).mpr h5) (fun h => h6 ((hcond0_6 ⟨n + 1, hn⟩).mp h)) (fun h => h7 ((hcond0_7 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
            else
              if h6 : 12 ≤ (n + 1) % 16 then
                False.elim (by have hN : n + 1 < 256 := lt_of_lt_of_eq hn (show cfg0.N = 256 from N_0); omega)
              else
                if h7 : 14 ≤ (n + 1) % 16 then
                  False.elim (by have hN : n + 1 < 256 := lt_of_lt_of_eq hn (show cfg0.N = 256 from N_0); omega)
                else
                  out0_E_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (hcond0_0 ⟨n + 1, hn⟩) ((hcond0_1 ⟨n + 1, hn⟩).mpr h1) ((hcond0_2 ⟨n + 1, hn⟩).mpr h2) ((hcond0_3 ⟨n + 1, hn⟩).mpr h3) ((hcond0_4 ⟨n + 1, hn⟩).mpr h4) (fun h => h5 ((hcond0_5 ⟨n + 1, hn⟩).mp h)) (fun h => h6 ((hcond0_6 ⟨n + 1, hn⟩).mp h)) (fun h => h7 ((hcond0_7 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
          else
            if h5 : 10 ≤ (n + 1) % 16 then
              False.elim (by have hN : n + 1 < 256 := lt_of_lt_of_eq hn (show cfg0.N = 256 from N_0); omega)
            else
              if h6 : 12 ≤ (n + 1) % 16 then
                False.elim (by have hN : n + 1 < 256 := lt_of_lt_of_eq hn (show cfg0.N = 256 from N_0); omega)
              else
                if h7 : 14 ≤ (n + 1) % 16 then
                  False.elim (by have hN : n + 1 < 256 := lt_of_lt_of_eq hn (show cfg0.N = 256 from N_0); omega)
                else
                  out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (hcond0_0 ⟨n + 1, hn⟩) ((hcond0_1 ⟨n + 1, hn⟩).mpr h1) ((hcond0_2 ⟨n + 1, hn⟩).mpr h2) ((hcond0_3 ⟨n + 1, hn⟩).mpr h3) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
        else
          if h4 : 8 ≤ (n + 1) % 16 then
            False.elim (by have hN : n + 1 < 256 := lt_of_lt_of_eq hn (show cfg0.N = 256 from N_0); omega)
          else
            if h5 : 10 ≤ (n + 1) % 16 then
              False.elim (by have hN : n + 1 < 256 := lt_of_lt_of_eq hn (show cfg0.N = 256 from N_0); omega)
            else
              if h6 : 12 ≤ (n + 1) % 16 then
                False.elim (by have hN : n + 1 < 256 := lt_of_lt_of_eq hn (show cfg0.N = 256 from N_0); omega)
              else
                if h7 : 14 ≤ (n + 1) % 16 then
                  False.elim (by have hN : n + 1 < 256 := lt_of_lt_of_eq hn (show cfg0.N = 256 from N_0); omega)
                else
                  out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (hcond0_0 ⟨n + 1, hn⟩) ((hcond0_1 ⟨n + 1, hn⟩).mpr h1) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
      else
        if h3 : 6 ≤ (n + 1) % 16 then
          False.elim (by have hN : n + 1 < 256 := lt_of_lt_of_eq hn (show cfg0.N = 256 from N_0); omega)
        else
          if h4 : 8 ≤ (n + 1) % 16 then
            False.elim (by have hN : n + 1 < 256 := lt_of_lt_of_eq hn (show cfg0.N = 256 from N_0); omega)
          else
            if h5 : 10 ≤ (n + 1) % 16 then
              False.elim (by have hN : n + 1 < 256 := lt_of_lt_of_eq hn (show cfg0.N = 256 from N_0); omega)
            else
              if h6 : 12 ≤ (n + 1) % 16 then
                False.elim (by have hN : n + 1 < 256 := lt_of_lt_of_eq hn (show cfg0.N = 256 from N_0); omega)
              else
                if h7 : 14 ≤ (n + 1) % 16 then
                  False.elim (by have hN : n + 1 < 256 := lt_of_lt_of_eq hn (show cfg0.N = 256 from N_0); omega)
                else
                  out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (hcond0_0 ⟨n + 1, hn⟩) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
    else
      if h2 : 4 ≤ (n + 1) % 16 then
        False.elim (by have hN : n + 1 < 256 := lt_of_lt_of_eq hn (show cfg0.N = 256 from N_0); omega)
      else
        if h3 : 6 ≤ (n + 1) % 16 then
          False.elim (by have hN : n + 1 < 256 := lt_of_lt_of_eq hn (show cfg0.N = 256 from N_0); omega)
        else
          if h4 : 8 ≤ (n + 1) % 16 then
            False.elim (by have hN : n + 1 < 256 := lt_of_lt_of_eq hn (show cfg0.N = 256 from N_0); omega)
          else
            if h5 : 10 ≤ (n + 1) % 16 then
              False.elim (by have hN : n + 1 < 256 := lt_of_lt_of_eq hn (show cfg0.N = 256 from N_0); omega)
            else
              if h6 : 12 ≤ (n + 1) % 16 then
                False.elim (by have hN : n + 1 < 256 := lt_of_lt_of_eq hn (show cfg0.N = 256 from N_0); omega)
              else
                if h7 : 14 ≤ (n + 1) % 16 then
                  False.elim (by have hN : n + 1 < 256 := lt_of_lt_of_eq hn (show cfg0.N = 256 from N_0); omega)
                else
                  out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (hcond0_0 ⟨n + 1, hn⟩) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)

/-- `outsAt0` at a point of case A: that case's contents. -/
theorem outsAt0_A (c : Dev nD) (t : Fin cfg0.N) (h1 : ¬2 ≤ t.val % 16) (h2 : ¬4 ≤ t.val % 16) (h3 : ¬6 ≤ t.val % 16) (h4 : ¬8 ≤ t.val % 16) (h5 : ¬10 ≤ t.val % 16) (h6 : ¬12 ≤ t.val % 16) (h7 : ¬14 ≤ t.val % 16) :
    outsAt0 m c t.val t.isLt = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (hcond0_0 t) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact rfl
  | succ n => exact (dif_neg h1).trans ((dif_neg h2).trans ((dif_neg h3).trans ((dif_neg h4).trans ((dif_neg h5).trans ((dif_neg h6).trans ((dif_neg h7).trans rfl))))))

/-- `outsAt0` at a point of case B: that case's contents. -/
theorem outsAt0_B (c : Dev nD) (t : Fin cfg0.N) (h1 : 2 ≤ t.val % 16) (h2 : ¬4 ≤ t.val % 16) (h3 : ¬6 ≤ t.val % 16) (h4 : ¬8 ≤ t.val % 16) (h5 : ¬10 ≤ t.val % 16) (h6 : ¬12 ≤ t.val % 16) (h7 : ¬14 ≤ t.val % 16) :
    outsAt0 m c t.val t.isLt = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (hcond0_0 t) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact (by exfalso; (try dsimp only at h1); exact by omega)
  | succ n => exact (dif_pos h1).trans ((dif_neg h2).trans ((dif_neg h3).trans ((dif_neg h4).trans ((dif_neg h5).trans ((dif_neg h6).trans ((dif_neg h7).trans rfl))))))

/-- `outsAt0` at a point of case C: that case's contents. -/
theorem outsAt0_C (c : Dev nD) (t : Fin cfg0.N) (h1 : 2 ≤ t.val % 16) (h2 : 4 ≤ t.val % 16) (h3 : ¬6 ≤ t.val % 16) (h4 : ¬8 ≤ t.val % 16) (h5 : ¬10 ≤ t.val % 16) (h6 : ¬12 ≤ t.val % 16) (h7 : ¬14 ≤ t.val % 16) :
    outsAt0 m c t.val t.isLt = out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (hcond0_0 t) ((hcond0_1 t).mpr h1) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact (by exfalso; (try dsimp only at h1); exact by omega)
  | succ n => exact (dif_pos h1).trans ((dif_pos h2).trans ((dif_neg h3).trans ((dif_neg h4).trans ((dif_neg h5).trans ((dif_neg h6).trans ((dif_neg h7).trans rfl))))))

/-- `outsAt0` at a point of case D: that case's contents. -/
theorem outsAt0_D (c : Dev nD) (t : Fin cfg0.N) (h1 : 2 ≤ t.val % 16) (h2 : 4 ≤ t.val % 16) (h3 : 6 ≤ t.val % 16) (h4 : ¬8 ≤ t.val % 16) (h5 : ¬10 ≤ t.val % 16) (h6 : ¬12 ≤ t.val % 16) (h7 : ¬14 ≤ t.val % 16) :
    outsAt0 m c t.val t.isLt = out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (hcond0_0 t) ((hcond0_1 t).mpr h1) ((hcond0_2 t).mpr h2) ((hcond0_3 t).mpr h3) (fun h => h4 ((hcond0_4 t).mp h)) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact (by exfalso; (try dsimp only at h1); exact by omega)
  | succ n => exact (dif_pos h1).trans ((dif_pos h2).trans ((dif_pos h3).trans ((dif_neg h4).trans ((dif_neg h5).trans ((dif_neg h6).trans ((dif_neg h7).trans rfl))))))

/-- `outsAt0` at a point of case E: that case's contents. -/
theorem outsAt0_E (c : Dev nD) (t : Fin cfg0.N) (h1 : 2 ≤ t.val % 16) (h2 : 4 ≤ t.val % 16) (h3 : 6 ≤ t.val % 16) (h4 : 8 ≤ t.val % 16) (h5 : ¬10 ≤ t.val % 16) (h6 : ¬12 ≤ t.val % 16) (h7 : ¬14 ≤ t.val % 16) :
    outsAt0 m c t.val t.isLt = out0_E_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (hcond0_0 t) ((hcond0_1 t).mpr h1) ((hcond0_2 t).mpr h2) ((hcond0_3 t).mpr h3) ((hcond0_4 t).mpr h4) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact (by exfalso; (try dsimp only at h1); exact by omega)
  | succ n => exact (dif_pos h1).trans ((dif_pos h2).trans ((dif_pos h3).trans ((dif_pos h4).trans ((dif_neg h5).trans ((dif_neg h6).trans ((dif_neg h7).trans rfl))))))

/-- `outsAt0` at a point of case F: that case's contents. -/
theorem outsAt0_F (c : Dev nD) (t : Fin cfg0.N) (h1 : 2 ≤ t.val % 16) (h2 : 4 ≤ t.val % 16) (h3 : 6 ≤ t.val % 16) (h4 : 8 ≤ t.val % 16) (h5 : 10 ≤ t.val % 16) (h6 : ¬12 ≤ t.val % 16) (h7 : ¬14 ≤ t.val % 16) :
    outsAt0 m c t.val t.isLt = out0_F_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (hcond0_0 t) ((hcond0_1 t).mpr h1) ((hcond0_2 t).mpr h2) ((hcond0_3 t).mpr h3) ((hcond0_4 t).mpr h4) ((hcond0_5 t).mpr h5) (fun h => h6 ((hcond0_6 t).mp h)) (fun h => h7 ((hcond0_7 t).mp h)) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact (by exfalso; (try dsimp only at h1); exact by omega)
  | succ n => exact (dif_pos h1).trans ((dif_pos h2).trans ((dif_pos h3).trans ((dif_pos h4).trans ((dif_pos h5).trans ((dif_neg h6).trans ((dif_neg h7).trans rfl))))))

/-- `outsAt0` at a point of case G: that case's contents. -/
theorem outsAt0_G (c : Dev nD) (t : Fin cfg0.N) (h1 : 2 ≤ t.val % 16) (h2 : 4 ≤ t.val % 16) (h3 : 6 ≤ t.val % 16) (h4 : 8 ≤ t.val % 16) (h5 : 10 ≤ t.val % 16) (h6 : 12 ≤ t.val % 16) (h7 : ¬14 ≤ t.val % 16) :
    outsAt0 m c t.val t.isLt = out0_G_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (hcond0_0 t) ((hcond0_1 t).mpr h1) ((hcond0_2 t).mpr h2) ((hcond0_3 t).mpr h3) ((hcond0_4 t).mpr h4) ((hcond0_5 t).mpr h5) ((hcond0_6 t).mpr h6) (fun h => h7 ((hcond0_7 t).mp h)) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact (by exfalso; (try dsimp only at h1); exact by omega)
  | succ n => exact (dif_pos h1).trans ((dif_pos h2).trans ((dif_pos h3).trans ((dif_pos h4).trans ((dif_pos h5).trans ((dif_pos h6).trans ((dif_neg h7).trans rfl))))))

/-- `outsAt0` at a point of case H: that case's contents. -/
theorem outsAt0_H (c : Dev nD) (t : Fin cfg0.N) (h1 : 2 ≤ t.val % 16) (h2 : 4 ≤ t.val % 16) (h3 : 6 ≤ t.val % 16) (h4 : 8 ≤ t.val % 16) (h5 : 10 ≤ t.val % 16) (h6 : 12 ≤ t.val % 16) (h7 : 14 ≤ t.val % 16) :
    outsAt0 m c t.val t.isLt = out0_H_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (hcond0_0 t) ((hcond0_1 t).mpr h1) ((hcond0_2 t).mpr h2) ((hcond0_3 t).mpr h3) ((hcond0_4 t).mpr h4) ((hcond0_5 t).mpr h5) ((hcond0_6 t).mpr h6) ((hcond0_7 t).mpr h7) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact (by exfalso; (try dsimp only at h1); exact by omega)
  | succ n => exact (dif_pos h1).trans ((dif_pos h2).trans ((dif_pos h3).trans ((dif_pos h4).trans ((dif_pos h5).trans ((dif_pos h6).trans ((dif_pos h7).trans rfl))))))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  have hN : t.val < 256 := lt_of_lt_of_eq t.isLt (show cfg0.N = 256 from N_0)
  by_cases h1 : 2 ≤ t.val % 16
  · by_cases h2 : 4 ≤ t.val % 16
    · by_cases h3 : 6 ≤ t.val % 16
      · by_cases h4 : 8 ≤ t.val % 16
        · by_cases h5 : 10 ≤ t.val % 16
          · by_cases h6 : 12 ≤ t.val % 16
            · by_cases h7 : 14 ≤ t.val % 16
              · rw [outsAt0_H m c t h1 h2 h3 h4 h5 h6 h7]
                unfold out0_H_9
                iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                iapply ((kernelRun0_H c (grid0.coords t) _ _ _ _ _ _ _ _ _ _ _ _ _ _ _ _ _ _ _ _ _ _ _ _ _ _ _ _ (hcond0_0 t) ((hcond0_1 t).mpr h1) ((hcond0_2 t).mpr h2) ((hcond0_3 t).mpr h3) ((hcond0_4 t).mpr h4) ((hcond0_5 t).mpr h5) ((hcond0_6 t).mpr h6) ((hcond0_7 t).mpr h7) (iblk m c 0 t) (iblk m c 1 t) (iblk m c 2 t) (iblk m c 3 t) (iblk m c 4 t) (iblk m c 5 t) (iblk m c 6 t) (iblk m c 7 t) (iblk m c 8 t)).2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexists _; iexact H9
                isplitl [HS0]; · iexact HS0
                isplitl [HS1]; · iexact HS1
                isplitl [HS2]; · iexact HS2
                isplitl [HS3]; · iexact HS3
                iintro ⟨H0, H1, H2, H3, H4, H5, H6, H7, H8, ⟨%e9, H9⟩, HS0, HS1, HS2, HS3⟩
                isplitl [HS0 HS1 HS2 HS3 Hg]
                · isplitl [HS0 HS1 HS2 HS3]
                  · isplitl [HS0]
                    · iexact HS0
                    isplitl [HS1]
                    · iexact HS1
                    isplitl [HS2]
                    · iexact HS2
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                unfold owns; iexists _; isplitr
                swap; · iexact H9
                ipureintro; exact View.read_writes_of_cover _ _ _ _ _ (cover0_H_9 c _ _ _ _ _ _ _ _ _ _ _ _ _ _ _ _ _ _ _ _ _ _ _ _ _ _ _ _ _ _ _ _ _ _ _ _ _ _ _ _ _ _ _ _ _ _)
              · rw [outsAt0_G m c t h1 h2 h3 h4 h5 h6 h7]
                unfold out0_G_9
                iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                iapply ((kernelRun0_G c (grid0.coords t) _ _ _ _ _ _ _ _ _ _ _ _ _ _ _ _ _ _ _ _ _ _ _ _ _ _ _ _ (hcond0_0 t) ((hcond0_1 t).mpr h1) ((hcond0_2 t).mpr h2) ((hcond0_3 t).mpr h3) ((hcond0_4 t).mpr h4) ((hcond0_5 t).mpr h5) ((hcond0_6 t).mpr h6) (fun h => h7 ((hcond0_7 t).mp h)) (iblk m c 0 t) (iblk m c 1 t) (iblk m c 2 t) (iblk m c 3 t) (iblk m c 4 t) (iblk m c 5 t) (iblk m c 6 t) (iblk m c 7 t) (iblk m c 8 t)).2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexists _; iexact H9
                isplitl [HS0]; · iexact HS0
                isplitl [HS1]; · iexact HS1
                isplitl [HS2]; · iexact HS2
                isplitl [HS3]; · iexact HS3
                iintro ⟨H0, H1, H2, H3, H4, H5, H6, H7, H8, ⟨%e9, H9⟩, HS0, HS1, HS2, HS3⟩
                isplitl [HS0 HS1 HS2 HS3 Hg]
                · isplitl [HS0 HS1 HS2 HS3]
                  · isplitl [HS0]
                    · iexact HS0
                    isplitl [HS1]
                    · iexact HS1
                    isplitl [HS2]
                    · iexact HS2
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                unfold owns; iexists _; isplitr
                swap; · iexact H9
                ipureintro; exact View.read_writes_of_cover _ _ _ _ _ (cover0_G_9 c _ _ _ _ _ _ _ _ _ _ _ _ _ _ _ _ _ _ _ _ _ _ _ _ _ _ _ _ _ _ _ _ _ _ _ _ _ _ _ _ _ _ _ _ _ _)
            · by_cases h7 : 14 ≤ t.val % 16
              · exfalso; omega
              · rw [outsAt0_F m c t h1 h2 h3 h4 h5 h6 h7]
                unfold out0_F_9
                iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                iapply ((kernelRun0_F c (grid0.coords t) _ _ _ _ _ _ _ _ _ _ _ _ _ _ _ _ _ _ _ _ _ _ _ _ _ _ _ _ (hcond0_0 t) ((hcond0_1 t).mpr h1) ((hcond0_2 t).mpr h2) ((hcond0_3 t).mpr h3) ((hcond0_4 t).mpr h4) ((hcond0_5 t).mpr h5) (fun h => h6 ((hcond0_6 t).mp h)) (fun h => h7 ((hcond0_7 t).mp h)) (iblk m c 0 t) (iblk m c 1 t) (iblk m c 2 t) (iblk m c 3 t) (iblk m c 4 t) (iblk m c 5 t) (iblk m c 6 t) (iblk m c 7 t) (iblk m c 8 t)).2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexists _; iexact H9
                isplitl [HS0]; · iexact HS0
                isplitl [HS1]; · iexact HS1
                isplitl [HS2]; · iexact HS2
                isplitl [HS3]; · iexact HS3
                iintro ⟨H0, H1, H2, H3, H4, H5, H6, H7, H8, ⟨%e9, H9⟩, HS0, HS1, HS2, HS3⟩
                isplitl [HS0 HS1 HS2 HS3 Hg]
                · isplitl [HS0 HS1 HS2 HS3]
                  · isplitl [HS0]
                    · iexact HS0
                    isplitl [HS1]
                    · iexact HS1
                    isplitl [HS2]
                    · iexact HS2
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                unfold owns; iexists _; isplitr
                swap; · iexact H9
                ipureintro; exact View.read_writes_of_cover _ _ _ _ _ (cover0_F_9 c _ _ _ _ _ _ _ _ _ _ _ _ _ _ _ _ _ _ _ _ _ _ _ _ _ _ _ _ _ _ _ _ _ _ _ _ _ _ _ _ _ _ _ _ _ _)
          · by_cases h6 : 12 ≤ t.val % 16
            · exfalso; omega
            · by_cases h7 : 14 ≤ t.val % 16
              · exfalso; omega
              · rw [outsAt0_E m c t h1 h2 h3 h4 h5 h6 h7]
                unfold out0_E_9
                iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                iapply ((kernelRun0_E c (grid0.coords t) _ _ _ _ _ _ _ _ _ _ _ _ _ _ _ _ _ _ _ _ _ _ _ _ _ _ _ _ (hcond0_0 t) ((hcond0_1 t).mpr h1) ((hcond0_2 t).mpr h2) ((hcond0_3 t).mpr h3) ((hcond0_4 t).mpr h4) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t) (iblk m c 6 t) (iblk m c 7 t) (iblk m c 8 t)).2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexists _; iexact H9
                isplitl [HS0]; · iexact HS0
                isplitl [HS1]; · iexact HS1
                isplitl [HS2]; · iexact HS2
                isplitl [HS3]; · iexact HS3
                iintro ⟨H0, H1, H2, H3, H4, H5, H6, H7, H8, ⟨%e9, H9⟩, HS0, HS1, HS2, HS3⟩
                isplitl [HS0 HS1 HS2 HS3 Hg]
                · isplitl [HS0 HS1 HS2 HS3]
                  · isplitl [HS0]
                    · iexact HS0
                    isplitl [HS1]
                    · iexact HS1
                    isplitl [HS2]
                    · iexact HS2
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                unfold owns; iexists _; isplitr
                swap; · iexact H9
                ipureintro; exact View.read_writes_of_cover _ _ _ _ _ (cover0_E_9 c _ _ _ _ _ _ _ _ _ _ _ _ _ _ _ _ _ _ _ _ _ _ _ _ _ _ _ _ _ _ _ _ _ _ _ _ _ _ _ _ _ _ _ _ _ _)
        · by_cases h5 : 10 ≤ t.val % 16
          · exfalso; omega
          · by_cases h6 : 12 ≤ t.val % 16
            · exfalso; omega
            · by_cases h7 : 14 ≤ t.val % 16
              · exfalso; omega
              · rw [outsAt0_D m c t h1 h2 h3 h4 h5 h6 h7]
                unfold out0_D_9
                iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                iapply ((kernelRun0_D c (grid0.coords t) _ _ _ _ _ _ _ _ _ _ _ _ _ _ _ _ _ _ _ _ _ _ _ _ _ _ _ _ (hcond0_0 t) ((hcond0_1 t).mpr h1) ((hcond0_2 t).mpr h2) ((hcond0_3 t).mpr h3) (fun h => h4 ((hcond0_4 t).mp h)) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t) (iblk m c 6 t) (iblk m c 7 t) (iblk m c 8 t)).2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexists _; iexact H9
                isplitl [HS0]; · iexact HS0
                isplitl [HS1]; · iexact HS1
                isplitl [HS2]; · iexact HS2
                isplitl [HS3]; · iexact HS3
                iintro ⟨H0, H1, H2, H3, H4, H5, H6, H7, H8, ⟨%e9, H9⟩, HS0, HS1, HS2, HS3⟩
                isplitl [HS0 HS1 HS2 HS3 Hg]
                · isplitl [HS0 HS1 HS2 HS3]
                  · isplitl [HS0]
                    · iexact HS0
                    isplitl [HS1]
                    · iexact HS1
                    isplitl [HS2]
                    · iexact HS2
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                unfold owns; iexists _; isplitr
                swap; · iexact H9
                ipureintro; exact View.read_writes_of_cover _ _ _ _ _ (cover0_D_9 c _ _ _ _ _ _ _ _ _ _ _ _ _ _ _ _ _ _ _ _ _ _ _ _ _ _ _ _ _ _ _ _ _ _ _ _ _ _ _ _ _ _ _ _ _ _)
      · by_cases h4 : 8 ≤ t.val % 16
        · exfalso; omega
        · by_cases h5 : 10 ≤ t.val % 16
          · exfalso; omega
          · by_cases h6 : 12 ≤ t.val % 16
            · exfalso; omega
            · by_cases h7 : 14 ≤ t.val % 16
              · exfalso; omega
              · rw [outsAt0_C m c t h1 h2 h3 h4 h5 h6 h7]
                unfold out0_C_9
                iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                iapply ((kernelRun0_C c (grid0.coords t) _ _ _ _ _ _ _ _ _ _ _ _ _ _ _ _ _ _ _ _ _ _ _ _ _ _ _ _ (hcond0_0 t) ((hcond0_1 t).mpr h1) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t) (iblk m c 6 t) (iblk m c 7 t) (iblk m c 8 t)).2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexists _; iexact H9
                isplitl [HS0]; · iexact HS0
                isplitl [HS1]; · iexact HS1
                isplitl [HS2]; · iexact HS2
                isplitl [HS3]; · iexact HS3
                iintro ⟨H0, H1, H2, H3, H4, H5, H6, H7, H8, ⟨%e9, H9⟩, HS0, HS1, HS2, HS3⟩
                isplitl [HS0 HS1 HS2 HS3 Hg]
                · isplitl [HS0 HS1 HS2 HS3]
                  · isplitl [HS0]
                    · iexact HS0
                    isplitl [HS1]
                    · iexact HS1
                    isplitl [HS2]
                    · iexact HS2
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                unfold owns; iexists _; isplitr
                swap; · iexact H9
                ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _)
    · by_cases h3 : 6 ≤ t.val % 16
      · exfalso; omega
      · by_cases h4 : 8 ≤ t.val % 16
        · exfalso; omega
        · by_cases h5 : 10 ≤ t.val % 16
          · exfalso; omega
          · by_cases h6 : 12 ≤ t.val % 16
            · exfalso; omega
            · by_cases h7 : 14 ≤ t.val % 16
              · exfalso; omega
              · rw [outsAt0_B m c t h1 h2 h3 h4 h5 h6 h7]
                unfold out0_B_9
                iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                iapply ((kernelRun0_B c (grid0.coords t) _ _ _ _ _ _ _ _ _ _ _ _ _ _ _ _ _ _ _ _ _ _ _ _ _ _ _ _ (hcond0_0 t) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t) (iblk m c 6 t) (iblk m c 7 t) (iblk m c 8 t)).2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexists _; iexact H9
                isplitl [HS0]; · iexact HS0
                isplitl [HS1]; · iexact HS1
                isplitl [HS2]; · iexact HS2
                isplitl [HS3]; · iexact HS3
                iintro ⟨H0, H1, H2, H3, H4, H5, H6, H7, H8, ⟨%e9, H9⟩, HS0, HS1, HS2, HS3⟩
                isplitl [HS0 HS1 HS2 HS3 Hg]
                · isplitl [HS0 HS1 HS2 HS3]
                  · isplitl [HS0]
                    · iexact HS0
                    isplitl [HS1]
                    · iexact HS1
                    isplitl [HS2]
                    · iexact HS2
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                unfold owns; iexists _; isplitr
                swap; · iexact H9
                ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _)
  · by_cases h2 : 4 ≤ t.val % 16
    · exfalso; omega
    · by_cases h3 : 6 ≤ t.val % 16
      · exfalso; omega
      · by_cases h4 : 8 ≤ t.val % 16
        · exfalso; omega
        · by_cases h5 : 10 ≤ t.val % 16
          · exfalso; omega
          · by_cases h6 : 12 ≤ t.val % 16
            · exfalso; omega
            · by_cases h7 : 14 ≤ t.val % 16
              · exfalso; omega
              · rw [outsAt0_A m c t h1 h2 h3 h4 h5 h6 h7]
                unfold out0_A_9
                iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                iapply ((kernelRun0_A c (grid0.coords t) _ _ _ _ _ _ _ _ _ _ _ _ _ _ _ _ _ _ _ _ _ _ _ _ _ _ _ _ (hcond0_0 t) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t) (iblk m c 6 t) (iblk m c 7 t) (iblk m c 8 t)).2 Set.univ _)
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                isplitl [H9]; · iexists _; iexact H9
                isplitl [HS0]; · iexact HS0
                isplitl [HS1]; · iexact HS1
                isplitl [HS2]; · iexact HS2
                isplitl [HS3]; · iexact HS3
                iintro ⟨H0, H1, H2, H3, H4, H5, H6, H7, H8, ⟨%e9, H9⟩, HS0, HS1, HS2, HS3⟩
                isplitl [HS0 HS1 HS2 HS3 Hg]
                · isplitl [HS0 HS1 HS2 HS3]
                  · isplitl [HS0]
                    · iexact HS0
                    isplitl [HS1]
                    · iexact HS1
                    isplitl [HS2]
                    · iexact HS2
                    iexact HS3
                  iexact Hg
                isplitl [Ho]; · iexact Ho
                isplitl [H0]; · iexact H0
                isplitl [H1]; · iexact H1
                isplitl [H2]; · iexact H2
                isplitl [H3]; · iexact H3
                isplitl [H4]; · iexact H4
                isplitl [H5]; · iexact H5
                isplitl [H6]; · iexact H6
                isplitl [H7]; · iexact H7
                isplitl [H8]; · iexact H8
                unfold owns; iexists _; isplitr
                swap; · iexact H9
                ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.Mlp.lean ====
module

public import proofs.«01_k».proof.Proof.Gen.Kernel2Ideal.Frame
public import proofs.«01_k».proof.Proof.Gen.Reference2Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value2
open Cert.Kernel2Ideal Cert.Kernel2Ideal.Gen
open Cert.Reference2Ideal.Gen

variable (m : (ℓ : Loc nD τ sig) → Buf (Elt Ideal) ℓ)

/-- The first linear map's input, as the reference computes it. -/
def HID (X : FVec Ideal Cert.Reference2Ideal.S8x4096x1024 .f32) (M : FVec Ideal Cert.Reference2Ideal.S8x6144 .f32) (G : FVec Ideal Cert.Reference2Ideal.S1024 .f32) : FVec Ideal Cert.Reference2Ideal.S8x4096x1024 .f32 :=
  addf (mulf (mulf (mulf X (broadcastInDim Cert.Reference2Ideal.S8x4096x1024 ![0, 1, 2] bcast_S8x4096x1_S8x4096x1024_0_1_2 (Host.rsqrt (addf (Host.divf (broadcastInDim Cert.Reference2Ideal.S8x4096x1 ![0, 1] bcast_S8x4096_S8x4096x1_0_1 (Host.reduceAdd (mulf X X) (constant Cert.Reference2Ideal.S_ .f32 0x00000000#32) reducesTo_S8x4096x1024_S8x4096_d2 h_S_)) (broadcastInDim Cert.Reference2Ideal.S8x4096x1 ![] bcast_S_S8x4096x1 (constant Cert.Reference2Ideal.S_ .f32 0x44800000#32))) (broadcastInDim Cert.Reference2Ideal.S8x4096x1 ![] bcast_S_S8x4096x1 (constant Cert.Reference2Ideal.S_ .f32 0x358637BD#32)))))) (broadcastInDim Cert.Reference2Ideal.S8x4096x1024 ![0, 1, 2] bcast_S1x1x1024_S8x4096x1024_0_1_2 (broadcastInDim Cert.Reference2Ideal.S1x1x1024 ![2] bcast_S1024_S1x1x1024_2 G))) (broadcastInDim Cert.Reference2Ideal.S8x4096x1024 ![0, 1, 2] bcast_S8x1x1024_S8x4096x1024_0_1_2 (addf (broadcastInDim Cert.Reference2Ideal.S8x1x1024 ![] bcast_S_S8x1x1024 (constant Cert.Reference2Ideal.S_ .f32 0x3F800000#32)) (extractStridedSlice Cert.Reference2Ideal.S8x1x1024 ![0, 0, 4096] (broadcastInDim Cert.Reference2Ideal.S8x1x6144 ![0, 2] bcast_S8x6144_S8x1x6144_0_2 M) slices_S8x1x6144_S8x1x1024_0_0_4096)))) (broadcastInDim Cert.Reference2Ideal.S8x4096x1024 ![0, 1, 2] bcast_S8x1x1024_S8x4096x1024_0_1_2 (extractStridedSlice Cert.Reference2Ideal.S8x1x1024 ![0, 0, 3072] (broadcastInDim Cert.Reference2Ideal.S8x1x6144 ![0, 2] bcast_S8x6144_S8x1x6144_0_2 M) slices_S8x1x6144_S8x1x1024_0_0_3072))

/-- The squared-ReLU of the first map, through the second map. -/
def OUT (H : FVec Ideal Cert.Reference2Ideal.S8x4096x1024 .f32) (W1 : FVec Ideal Cert.Reference2Ideal.S1024x4096 .f32) (W2 : FVec Ideal Cert.Reference2Ideal.S4096x1024 .f32) : FVec Ideal Cert.Reference2Ideal.S8x4096x1024 .f32 :=
  Host.dotGeneral Cert.Reference2Ideal.dot_S8x4096x4096_S4096x1024_S8x4096x1024_2_0_01_1_n_n none (mulf (maximumf (Host.dotGeneral Cert.Reference2Ideal.dot_S8x4096x1024_S1024x4096_S8x4096x4096_2_0_01_1_n_n none H W1) (broadcastInDim Cert.Reference2Ideal.S8x4096x4096 ![] bcast_S_S8x4096x4096 (constant Cert.Reference2Ideal.S_ .f32 0x00000000#32))) (maximumf (Host.dotGeneral Cert.Reference2Ideal.dot_S8x4096x1024_S1024x4096_S8x4096x4096_2_0_01_1_n_n none H W1) (broadcastInDim Cert.Reference2Ideal.S8x4096x4096 ![] bcast_S_S8x4096x4096 (constant Cert.Reference2Ideal.S_ .f32 0x00000000#32)))) W2

/-- The gated residual around the mixer's normalised output. -/
def RES (X Y : FVec Ideal Cert.Reference2Ideal.S8x4096x1024 .f32) (M : FVec Ideal Cert.Reference2Ideal.S8x6144 .f32) (G : FVec Ideal Cert.Reference2Ideal.S1024 .f32) : FVec Ideal Cert.Reference2Ideal.S8x4096x1024 .f32 :=
  addf X (mulf (broadcastInDim Cert.Reference2Ideal.S8x4096x1024 ![0, 1, 2] bcast_S8x1x1024_S8x4096x1024_0_1_2 (extractStridedSlice Cert.Reference2Ideal.S8x1x1024 ![0, 0, 5120] (broadcastInDim Cert.Reference2Ideal.S8x1x6144 ![0, 2] bcast_S8x6144_S8x1x6144_0_2 M) slices_S8x1x6144_S8x1x1024_0_0_5120)) (mulf (mulf Y (broadcastInDim Cert.Reference2Ideal.S8x4096x1024 ![0, 1, 2] bcast_S8x4096x1_S8x4096x1024_0_1_2 (Host.rsqrt (addf (Host.divf (broadcastInDim Cert.Reference2Ideal.S8x4096x1 ![0, 1] bcast_S8x4096_S8x4096x1_0_1 (Host.reduceAdd (mulf Y Y) (constant Cert.Reference2Ideal.S_ .f32 0x00000000#32) reducesTo_S8x4096x1024_S8x4096_d2 h_S_)) (broadcastInDim Cert.Reference2Ideal.S8x4096x1 ![] bcast_S_S8x4096x1 (constant Cert.Reference2Ideal.S_ .f32 0x44800000#32))) (broadcastInDim Cert.Reference2Ideal.S8x4096x1 ![] bcast_S_S8x4096x1 (constant Cert.Reference2Ideal.S_ .f32 0x358637BD#32)))))) (broadcastInDim Cert.Reference2Ideal.S8x4096x1024 ![0, 1, 2] bcast_S1x1x1024_S8x4096x1024_0_1_2 (broadcastInDim Cert.Reference2Ideal.S1x1x1024 ![2] bcast_S1024_S1x1x1024_2 G))))

/-- A sum over 4096 terms, in four runs of 1024. -/
theorem sum_four {A : Type*} [AddCommMonoid A] (g : Fin 4096 → A) :
    ∑ f, g f = (((∑ k : Fin 1024, g ⟨k.val, by omega⟩) + ∑ k : Fin 1024, g ⟨1024 + k.val, by omega⟩)
      + ∑ k : Fin 1024, g ⟨2048 + k.val, by omega⟩) + ∑ k : Fin 1024, g ⟨3072 + k.val, by omega⟩ := by
  have h3 := Fin.sum_univ_add (a := 3072) (b := 1024) g
  have h2 := Fin.sum_univ_add (a := 2048) (b := 1024) (fun i => g (Fin.castAdd 1024 i))
  have h1 := Fin.sum_univ_add (a := 1024) (b := 1024) (fun i : Fin 2048 => g (Fin.castAdd 1024 (Fin.castAdd 1024 i)))
  exact h3.trans (by rw [h2, h1]; rfl)

/-- The index maps of the windows. -/
theorem idx : ∀ t : Fin cfg0.N, win0_0.index t = ![t.val / 8, t.val % 8, 0] ∧ win0_1.index t = ![t.val / 8, 0, 0] ∧ win0_2.index t = ![0, 0]
    ∧ win0_3.index t = ![0, 0] ∧ win0_4.index t = ![0, 0] ∧ win0_5.index t = ![0, 0] ∧ win0_6.index t = ![t.val / 8, t.val % 8, 0] ∧ t.val / 8 < 8 :=
  (by decide +kernel : ∀ t : Fin grid0.N, _)

theorem lt8 (t : Fin cfg0.N) : t.val / 8 < 8 := (idx t).2.2.2.2.2.2.2

theorem lt_row (t : Fin cfg0.N) (r : Fin 512) : t.val % 8 * 512 + r.val < 4096 := by omega

/-- The kernel's rows of the first map's input are the reference's. -/
theorem hid_at (c : Dev nD) (t : Fin cfg0.N) (r : Fin 512) (k : Fin 1024) :
    k0_pay3 (F := Ideal) (iblk m c 0 t) (iblk m c 2 t) (View.ld (iblk m c 1 t) r0_2) (View.ld (iblk m c 1 t) r0_3) (ix2 r k)
      = HID (m ((c : Thread nD τ).loc main_arg0)) (m ((c : Thread nD τ).loc main_arg1)) (m ((c : Thread nD τ).loc main_arg2))
          (ix3 ⟨t.val / 8, lt8 t⟩ ⟨t.val % 8 * 512 + r.val, lt_row t r⟩ k) := by
  pointwise [k0_pay3, k0_pay2, HID]
  blk_point [iblk, V, idx t]

/-- The kernel's four runs of the hidden layer sum to the reference's one. -/
theorem out_at (c : Dev nD) (t : Fin cfg0.N) (r : Fin 512) (n : Fin 1024) :
    k0_pay6 (F := Ideal) (k0_pay3 (iblk m c 0 t) (iblk m c 2 t) (View.ld (iblk m c 1 t) r0_2) (View.ld (iblk m c 1 t) r0_3)) (k0_pay4 (F := Ideal))
        (k0_pay5 (iblk m c 0 t) (iblk m c 2 t) (View.ld (iblk m c 1 t) r0_2) (View.ld (iblk m c 1 t) r0_3) (View.ld (iblk m c 4 t) r0_4))
        (View.ld (iblk m c 5 t) r0_5) (View.ld (iblk m c 4 t) r0_6) (View.ld (iblk m c 5 t) r0_7)
        (View.ld (iblk m c 4 t) r0_8) (View.ld (iblk m c 5 t) r0_9) (View.ld (iblk m c 4 t) r0_10)
        (View.ld (iblk m c 5 t) r0_11) (ix2 r n)
      = OUT (HID (m ((c : Thread nD τ).loc main_arg0)) (m ((c : Thread nD τ).loc main_arg1)) (m ((c : Thread nD τ).loc main_arg2)))
          (m ((c : Thread nD τ).loc main_arg4)) (m ((c : Thread nD τ).loc main_arg5))
          (ix3 ⟨t.val / 8, lt8 t⟩ ⟨t.val % 8 * 512 + r.val, lt_row t r⟩ n) := by
  pointwise [k0_pay6, k0_pay5, k0_pay4, OUT]
  rw [sum_four]
  simp only [hid_at m c t]
  blk_point [iblk, V, idx t]

/-- The gated residual at a row whose mixer outputs agree. -/
theorem res_at (c : Dev nD) (t : Fin cfg0.N) (r : Fin 512) (n : Fin 1024) (O : FVec Ideal S512x1024 .f32) (Y : FVec Ideal Cert.Reference2Ideal.S8x4096x1024 .f32)
    (hO : ∀ n : Fin 1024, O (ix2 r n) = Y (ix3 ⟨t.val / 8, lt8 t⟩ ⟨t.val % 8 * 512 + r.val, lt_row t r⟩ n)) :
    k0_pay1 (F := Ideal) (k0_pay2 (iblk m c 0 t)) O (View.ld (iblk m c 1 t) r0_12) (iblk m c 3 t) (ix3 0 r n)
      = RES (m ((c : Thread nD τ).loc main_arg0)) Y (m ((c : Thread nD τ).loc main_arg1)) (m ((c : Thread nD τ).loc main_arg3))
          (ix3 ⟨t.val / 8, lt8 t⟩ ⟨t.val % 8 * 512 + r.val, lt_row t r⟩ n) := by
  pointwise [k0_pay1, k0_pay2, RES]
  simp only [hO]
  blk_point [iblk, V, idx t]

/-- The result array after the run is the reference's term of the arguments. -/
theorem final (c : Dev nD) : (dats m 0 c).arrAt 6 (cfgs 0).N
    = RES (m ((c : Thread nD τ).loc main_arg0)) (OUT (HID (m ((c : Thread nD τ).loc main_arg0)) (m ((c : Thread nD τ).loc main_arg1)) (m ((c : Thread nD τ).loc main_arg2))) (m ((c : Thread nD τ).loc main_arg4)) (m ((c : Thread nD τ).loc main_arg5)))
      (m ((c : Thread nD τ).loc main_arg1)) (m ((c : Thread nD τ).loc main_arg3)) := by
  refine (dats m 0 c).arrAt_eq_of_covers 6 _ (by decide +kernel) fun t _ y => ?_
  blk_simp
  rw [after0_6]
  frame_out
  idx_vars y
  obtain rfl : y0 = 0 := Subsingleton.elim _ _
  refine (res_at m c t y1 y2 _ _ (out_at m c t y1)).trans ?_
  blk_ext [iblk, V, idx t]

end Cert.Kernel2Ideal.Value2

end
-- ==== Proof.Merge.lean ====
module

public import proofs.«01_k».proof.Proof.Gen.Kernel3Ideal.Frame
public import proofs.«01_k».proof.Proof.Gen.Reference3Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Value3
open Cert.Kernel3Ideal Cert.Kernel3Ideal.Gen
open Cert.Reference3Ideal.Gen

/-- The mixer's normalised input, as the reference computes it. -/
def HID (arg0 : FVec Ideal Cert.Reference3Ideal.S8x4096x1024 .f32) (arg1 : FVec Ideal Cert.Reference3Ideal.S8x6144 .f32) (arg2 : FVec Ideal Cert.Reference3Ideal.S1024 .f32) : FVec Ideal Cert.Reference3Ideal.S8x4096x1024 .f32 :=
  addf (mulf (mulf (mulf arg0 (broadcastInDim Cert.Reference3Ideal.S8x4096x1024 ![0, 1, 2] bcast_S8x4096x1_S8x4096x1024_0_1_2 (Host.rsqrt (addf (Host.divf (broadcastInDim Cert.Reference3Ideal.S8x4096x1 ![0, 1] bcast_S8x4096_S8x4096x1_0_1 (Host.reduceAdd (mulf arg0 arg0) (constant Cert.Reference3Ideal.S_ .f32 0x00000000#32) reducesTo_S8x4096x1024_S8x4096_d2 h_S_)) (broadcastInDim Cert.Reference3Ideal.S8x4096x1 ![] bcast_S_S8x4096x1 (constant Cert.Reference3Ideal.S_ .f32 0x44800000#32))) (broadcastInDim Cert.Reference3Ideal.S8x4096x1 ![] bcast_S_S8x4096x1 (constant Cert.Reference3Ideal.S_ .f32 0x358637BD#32)))))) (broadcastInDim Cert.Reference3Ideal.S8x4096x1024 ![0, 1, 2] bcast_S1x1x1024_S8x4096x1024_0_1_2 (broadcastInDim Cert.Reference3Ideal.S1x1x1024 ![2] bcast_S1024_S1x1x1024_2 arg2))) (broadcastInDim Cert.Reference3Ideal.S8x4096x1024 ![0, 1, 2] bcast_S8x1x1024_S8x4096x1024_0_1_2 (addf (broadcastInDim Cert.Reference3Ideal.S8x1x1024 ![] bcast_S_S8x1x1024 (constant Cert.Reference3Ideal.S_ .f32 0x3F800000#32)) (extractStridedSlice Cert.Reference3Ideal.S8x1x1024 ![0, 0, 1024] (broadcastInDim Cert.Reference3Ideal.S8x1x6144 ![0, 2] bcast_S8x6144_S8x1x6144_0_2 arg1) Cert.Reference3Ideal.Gen.slices_S8x1x6144_S8x1x1024_0_0_1024)))) (broadcastInDim Cert.Reference3Ideal.S8x4096x1024 ![0, 1, 2] bcast_S8x1x1024_S8x4096x1024_0_1_2 (extractStridedSlice Cert.Reference3Ideal.S8x1x1024 ![0, 0, 0] (broadcastInDim Cert.Reference3Ideal.S8x1x6144 ![0, 2] bcast_S8x6144_S8x1x6144_0_2 arg1) Cert.Reference3Ideal.Gen.slices_S8x1x6144_S8x1x1024_0_0_0))

/-- The two merge gates. -/
def GATE (H : FVec Ideal Cert.Reference3Ideal.S8x4096x1024 .f32) (arg4 : FVec Ideal Cert.Reference3Ideal.S1024x3864 .f32) : FVec Ideal Cert.Reference3Ideal.S8x4096x2048 .f32 :=
  Host.divf (broadcastInDim Cert.Reference3Ideal.S8x4096x2048 ![] bcast_S_S8x4096x2048 (constant Cert.Reference3Ideal.S_ .f32 0x3F800000#32)) (addf (broadcastInDim Cert.Reference3Ideal.S8x4096x2048 ![] bcast_S_S8x4096x2048 (constant Cert.Reference3Ideal.S_ .f32 0x3F800000#32)) (Host.exp (Host.negf (Host.dotGeneral Cert.Reference3Ideal.dot_S8x4096x1024_S1024x2048_S8x4096x2048_2_0_01_1_n_n none H (extractStridedSlice Cert.Reference3Ideal.S1024x2048 ![0, 1816] arg4 Cert.Reference3Ideal.Gen.slices_S1024x3864_S1024x2048_0_1816)))))

/-- The pooled channels with sixteen rows of zeros before them. -/
def PAST (arg6 : FVec Ideal Cert.Reference3Ideal.S8x4096x512 .f32) : FVec Ideal Cert.Reference3Ideal.S8x4112x512 .f32 :=
  pad Cert.Reference3Ideal.S8x4112x512 ![0, 16, 0] ![0, 0, 0] ![0, 0, 0] arg6 (sitofp .f32 (constantI Cert.Reference3Ideal.S_ 32 0#32)) pads_S8x4096x512_S8x4112x512_000_1600_000 h_S_

/-- The four trailing means, each less its own row. -/
def POOLED (arg6 : FVec Ideal Cert.Reference3Ideal.S8x4096x512 .f32) : FVec Ideal Cert.Reference3Ideal.S8x4096x4x128 .f32 :=
  (concatenate Cert.Reference3Ideal.S8x4096x4x128 2 [⟨Cert.Reference3Ideal.S8x4096x1x128, ((broadcastInDim Cert.Reference3Ideal.S8x4096x1x128 ![0, 1, 3] bcast_S8x4096x128_S8x4096x1x128_0_1_3 (subf (Host.divf (addf (extractStridedSlice Cert.Reference3Ideal.S8x4096x128 ![0, 16, 0] (PAST arg6) Cert.Reference3Ideal.Gen.slices_S8x4112x512_S8x4096x128_0_16_0) (extractStridedSlice Cert.Reference3Ideal.S8x4096x128 ![0, 15, 0] (PAST arg6) Cert.Reference3Ideal.Gen.slices_S8x4112x512_S8x4096x128_0_15_0)) (broadcastInDim Cert.Reference3Ideal.S8x4096x128 ![0, 1, 2] bcast_S1x4096x1_S8x4096x128_0_1_2 (broadcastInDim Cert.Reference3Ideal.S1x4096x1 ![1] bcast_S4096_S1x4096x1_1 (sitofp .f32 (minsi (addi (iotaInDim Cert.Reference3Ideal.S4096 32 0) (broadcastInDim Cert.Reference3Ideal.S4096 ![] bcast_S_S4096 (constantI Cert.Reference3Ideal.S_ 32 1#32))) (broadcastInDim Cert.Reference3Ideal.S4096 ![] bcast_S_S4096 (constantI Cert.Reference3Ideal.S_ 32 2#32))))))) (extractStridedSlice Cert.Reference3Ideal.S8x4096x128 ![0, 0, 0] arg6 Cert.Reference3Ideal.Gen.slices_S8x4096x512_S8x4096x128_0_0_0))) : (⟨Cert.Reference3Ideal.S8x4096x1x128, .f32⟩ : BufTy).Contents (Elt Ideal))⟩, ⟨Cert.Reference3Ideal.S8x4096x1x128, ((broadcastInDim Cert.Reference3Ideal.S8x4096x1x128 ![0, 1, 3] bcast_S8x4096x128_S8x4096x1x128_0_1_3 (subf (Host.divf (addf (addf (addf (extractStridedSlice Cert.Reference3Ideal.S8x4096x128 ![0, 16, 128] (PAST arg6) Cert.Reference3Ideal.Gen.slices_S8x4112x512_S8x4096x128_0_16_128) (extractStridedSlice Cert.Reference3Ideal.S8x4096x128 ![0, 15, 128] (PAST arg6) Cert.Reference3Ideal.Gen.slices_S8x4112x512_S8x4096x128_0_15_128)) (extractStridedSlice Cert.Reference3Ideal.S8x4096x128 ![0, 14, 128] (PAST arg6) Cert.Reference3Ideal.Gen.slices_S8x4112x512_S8x4096x128_0_14_128)) (extractStridedSlice Cert.Reference3Ideal.S8x4096x128 ![0, 13, 128] (PAST arg6) Cert.Reference3Ideal.Gen.slices_S8x4112x512_S8x4096x128_0_13_128)) (broadcastInDim Cert.Reference3Ideal.S8x4096x128 ![0, 1, 2] bcast_S1x4096x1_S8x4096x128_0_1_2 (broadcastInDim Cert.Reference3Ideal.S1x4096x1 ![1] bcast_S4096_S1x4096x1_1 (sitofp .f32 (minsi (addi (iotaInDim Cert.Reference3Ideal.S4096 32 0) (broadcastInDim Cert.Reference3Ideal.S4096 ![] bcast_S_S4096 (constantI Cert.Reference3Ideal.S_ 32 1#32))) (broadcastInDim Cert.Reference3Ideal.S4096 ![] bcast_S_S4096 (constantI Cert.Reference3Ideal.S_ 32 4#32))))))) (extractStridedSlice Cert.Reference3Ideal.S8x4096x128 ![0, 0, 128] arg6 Cert.Reference3Ideal.Gen.slices_S8x4096x512_S8x4096x128_0_0_128))) : (⟨Cert.Reference3Ideal.S8x4096x1x128, .f32⟩ : BufTy).Contents (Elt Ideal))⟩, ⟨Cert.Reference3Ideal.S8x4096x1x128, ((broadcastInDim Cert.Reference3Ideal.S8x4096x1x128 ![0, 1, 3] bcast_S8x4096x128_S8x4096x1x128_0_1_3 (subf (Host.divf (addf (addf (addf (addf (addf (addf (addf (extractStridedSlice Cert.Reference3Ideal.S8x4096x128 ![0, 16, 256] (PAST arg6) Cert.Reference3Ideal.Gen.slices_S8x4112x512_S8x4096x128_0_16_256) (extractStridedSlice Cert.Reference3Ideal.S8x4096x128 ![0, 15, 256] (PAST arg6) Cert.Reference3Ideal.Gen.slices_S8x4112x512_S8x4096x128_0_15_256)) (extractStridedSlice Cert.Reference3Ideal.S8x4096x128 ![0, 14, 256] (PAST arg6) Cert.Reference3Ideal.Gen.slices_S8x4112x512_S8x4096x128_0_14_256)) (extractStridedSlice Cert.Reference3Ideal.S8x4096x128 ![0, 13, 256] (PAST arg6) Cert.Reference3Ideal.Gen.slices_S8x4112x512_S8x4096x128_0_13_256)) (extractStridedSlice Cert.Reference3Ideal.S8x4096x128 ![0, 12, 256] (PAST arg6) Cert.Reference3Ideal.Gen.slices_S8x4112x512_S8x4096x128_0_12_256)) (extractStridedSlice Cert.Reference3Ideal.S8x4096x128 ![0, 11, 256] (PAST arg6) Cert.Reference3Ideal.Gen.slices_S8x4112x512_S8x4096x128_0_11_256)) (extractStridedSlice Cert.Reference3Ideal.S8x4096x128 ![0, 10, 256] (PAST arg6) Cert.Reference3Ideal.Gen.slices_S8x4112x512_S8x4096x128_0_10_256)) (extractStridedSlice Cert.Reference3Ideal.S8x4096x128 ![0, 9, 256] (PAST arg6) Cert.Reference3Ideal.Gen.slices_S8x4112x512_S8x4096x128_0_9_256)) (broadcastInDim Cert.Reference3Ideal.S8x4096x128 ![0, 1, 2] bcast_S1x4096x1_S8x4096x128_0_1_2 (broadcastInDim Cert.Reference3Ideal.S1x4096x1 ![1] bcast_S4096_S1x4096x1_1 (sitofp .f32 (minsi (addi (iotaInDim Cert.Reference3Ideal.S4096 32 0) (broadcastInDim Cert.Reference3Ideal.S4096 ![] bcast_S_S4096 (constantI Cert.Reference3Ideal.S_ 32 1#32))) (broadcastInDim Cert.Reference3Ideal.S4096 ![] bcast_S_S4096 (constantI Cert.Reference3Ideal.S_ 32 8#32))))))) (extractStridedSlice Cert.Reference3Ideal.S8x4096x128 ![0, 0, 256] arg6 Cert.Reference3Ideal.Gen.slices_S8x4096x512_S8x4096x128_0_0_256))) : (⟨Cert.Reference3Ideal.S8x4096x1x128, .f32⟩ : BufTy).Contents (Elt Ideal))⟩, ⟨Cert.Reference3Ideal.S8x4096x1x128, ((broadcastInDim Cert.Reference3Ideal.S8x4096x1x128 ![0, 1, 3] bcast_S8x4096x128_S8x4096x1x128_0_1_3 (subf (Host.divf (addf (addf (addf (addf (addf (addf (addf (addf (addf (addf (addf (addf (addf (addf (addf (extractStridedSlice Cert.Reference3Ideal.S8x4096x128 ![0, 16, 384] (PAST arg6) Cert.Reference3Ideal.Gen.slices_S8x4112x512_S8x4096x128_0_16_384) (extractStridedSlice Cert.Reference3Ideal.S8x4096x128 ![0, 15, 384] (PAST arg6) Cert.Reference3Ideal.Gen.slices_S8x4112x512_S8x4096x128_0_15_384)) (extractStridedSlice Cert.Reference3Ideal.S8x4096x128 ![0, 14, 384] (PAST arg6) Cert.Reference3Ideal.Gen.slices_S8x4112x512_S8x4096x128_0_14_384)) (extractStridedSlice Cert.Reference3Ideal.S8x4096x128 ![0, 13, 384] (PAST arg6) Cert.Reference3Ideal.Gen.slices_S8x4112x512_S8x4096x128_0_13_384)) (extractStridedSlice Cert.Reference3Ideal.S8x4096x128 ![0, 12, 384] (PAST arg6) Cert.Reference3Ideal.Gen.slices_S8x4112x512_S8x4096x128_0_12_384)) (extractStridedSlice Cert.Reference3Ideal.S8x4096x128 ![0, 11, 384] (PAST arg6) Cert.Reference3Ideal.Gen.slices_S8x4112x512_S8x4096x128_0_11_384)) (extractStridedSlice Cert.Reference3Ideal.S8x4096x128 ![0, 10, 384] (PAST arg6) Cert.Reference3Ideal.Gen.slices_S8x4112x512_S8x4096x128_0_10_384)) (extractStridedSlice Cert.Reference3Ideal.S8x4096x128 ![0, 9, 384] (PAST arg6) Cert.Reference3Ideal.Gen.slices_S8x4112x512_S8x4096x128_0_9_384)) (extractStridedSlice Cert.Reference3Ideal.S8x4096x128 ![0, 8, 384] (PAST arg6) Cert.Reference3Ideal.Gen.slices_S8x4112x512_S8x4096x128_0_8_384)) (extractStridedSlice Cert.Reference3Ideal.S8x4096x128 ![0, 7, 384] (PAST arg6) Cert.Reference3Ideal.Gen.slices_S8x4112x512_S8x4096x128_0_7_384)) (extractStridedSlice Cert.Reference3Ideal.S8x4096x128 ![0, 6, 384] (PAST arg6) Cert.Reference3Ideal.Gen.slices_S8x4112x512_S8x4096x128_0_6_384)) (extractStridedSlice Cert.Reference3Ideal.S8x4096x128 ![0, 5, 384] (PAST arg6) Cert.Reference3Ideal.Gen.slices_S8x4112x512_S8x4096x128_0_5_384)) (extractStridedSlice Cert.Reference3Ideal.S8x4096x128 ![0, 4, 384] (PAST arg6) Cert.Reference3Ideal.Gen.slices_S8x4112x512_S8x4096x128_0_4_384)) (extractStridedSlice Cert.Reference3Ideal.S8x4096x128 ![0, 3, 384] (PAST arg6) Cert.Reference3Ideal.Gen.slices_S8x4112x512_S8x4096x128_0_3_384)) (extractStridedSlice Cert.Reference3Ideal.S8x4096x128 ![0, 2, 384] (PAST arg6) Cert.Reference3Ideal.Gen.slices_S8x4112x512_S8x4096x128_0_2_384)) (extractStridedSlice Cert.Reference3Ideal.S8x4096x128 ![0, 1, 384] (PAST arg6) Cert.Reference3Ideal.Gen.slices_S8x4112x512_S8x4096x128_0_1_384)) (broadcastInDim Cert.Reference3Ideal.S8x4096x128 ![0, 1, 2] bcast_S1x4096x1_S8x4096x128_0_1_2 (broadcastInDim Cert.Reference3Ideal.S1x4096x1 ![1] bcast_S4096_S1x4096x1_1 (sitofp .f32 (minsi (addi (iotaInDim Cert.Reference3Ideal.S4096 32 0) (broadcastInDim Cert.Reference3Ideal.S4096 ![] bcast_S_S4096 (constantI Cert.Reference3Ideal.S_ 32 1#32))) (broadcastInDim Cert.Reference3Ideal.S4096 ![] bcast_S_S4096 (constantI Cert.Reference3Ideal.S_ 32 16#32))))))) (extractStridedSlice Cert.Reference3Ideal.S8x4096x128 ![0, 0, 384] arg6 Cert.Reference3Ideal.Gen.slices_S8x4096x512_S8x4096x128_0_0_384))) : (⟨Cert.Reference3Ideal.S8x4096x1x128, .f32⟩ : BufTy).Contents (Elt Ideal))⟩] concatenates_S8x4096x1x128_S8x4096x1x128_S8x4096x1x128_S8x4096x1x128_S8x4096x4x128_d2 : (⟨Cert.Reference3Ideal.S8x4096x4x128, .f32⟩ : BufTy).Contents (Elt Ideal))

/-- The pooled channels through their groups' maps. -/
def MAPPED (P : FVec Ideal Cert.Reference3Ideal.S8x4096x4x128 .f32) (arg7 : FVec Ideal Cert.Reference3Ideal.S4x128x128 .f32) : FVec Ideal Cert.Reference3Ideal.S8x4096x512 .f32 :=
  shapeCast _ (transpose Cert.Reference3Ideal.S8x4096x4x128 [2, 3, 0, 1] (Host.dotGeneral Cert.Reference3Ideal.dot_S4x128x128_S8x4096x4x128_S4x128x8x4096_1_3_2_01_0_2 none arg7 P) transposes_S4x128x8x4096_S8x4096x4x128_2_3_0_1) shapeCasts_S8x4096x4x128_S8x4096x512

/-- The mapped channels, each by its scale. -/
def MIX (P : FVec Ideal Cert.Reference3Ideal.S8x4096x4x128 .f32) (arg7 : FVec Ideal Cert.Reference3Ideal.S4x128x128 .f32) (arg8 : FVec Ideal Cert.Reference3Ideal.S512 .f32) : FVec Ideal Cert.Reference3Ideal.S8x4096x512 .f32 :=
  mulf (MAPPED P arg7) (broadcastInDim Cert.Reference3Ideal.S8x4096x512 ![0, 1, 2] bcast_S1x1x512_S8x4096x512_0_1_2 (broadcastInDim Cert.Reference3Ideal.S1x1x512 ![2] bcast_S512_S1x1x512_2 arg8))

/-- The gated merge of the two mixers, through the output map. -/
def OUT (G : FVec Ideal Cert.Reference3Ideal.S8x4096x2048 .f32) (O arg5 : FVec Ideal Cert.Reference3Ideal.S8x4096x512 .f32) (arg9 arg10 : FVec Ideal Cert.Reference3Ideal.S512x1024 .f32) (arg11 : FVec Ideal Cert.Reference3Ideal.S1024x1024 .f32) : FVec Ideal Cert.Reference3Ideal.S8x4096x1024 .f32 :=
  Host.dotGeneral Cert.Reference3Ideal.dot_S8x4096x1024_S1024x1024_S8x4096x1024_2_0_01_1_n_n none (addf (mulf (extractStridedSlice Cert.Reference3Ideal.S8x4096x1024 ![0, 0, 0] G Cert.Reference3Ideal.Gen.slices_S8x4096x2048_S8x4096x1024_0_0_0) (Host.dotGeneral Cert.Reference3Ideal.dot_S8x4096x512_S512x1024_S8x4096x1024_2_0_01_1_n_n none arg5 arg9)) (mulf (extractStridedSlice Cert.Reference3Ideal.S8x4096x1024 ![0, 0, 1024] G Cert.Reference3Ideal.Gen.slices_S8x4096x2048_S8x4096x1024_0_0_1024) (Host.dotGeneral Cert.Reference3Ideal.dot_S8x4096x512_S512x1024_S8x4096x1024_2_0_01_1_n_n none O arg10))) arg11

/-- The gated residual around the merged output. -/
def RES (arg0 Y : FVec Ideal Cert.Reference3Ideal.S8x4096x1024 .f32) (arg1 : FVec Ideal Cert.Reference3Ideal.S8x6144 .f32) (arg3 : FVec Ideal Cert.Reference3Ideal.S1024 .f32) : FVec Ideal Cert.Reference3Ideal.S8x4096x1024 .f32 :=
  addf arg0 (mulf (broadcastInDim Cert.Reference3Ideal.S8x4096x1024 ![0, 1, 2] bcast_S8x1x1024_S8x4096x1024_0_1_2 (extractStridedSlice Cert.Reference3Ideal.S8x1x1024 ![0, 0, 2048] (broadcastInDim Cert.Reference3Ideal.S8x1x6144 ![0, 2] bcast_S8x6144_S8x1x6144_0_2 arg1) Cert.Reference3Ideal.Gen.slices_S8x1x6144_S8x1x1024_0_0_2048)) (mulf (mulf Y (broadcastInDim Cert.Reference3Ideal.S8x4096x1024 ![0, 1, 2] bcast_S8x4096x1_S8x4096x1024_0_1_2 (Host.rsqrt (addf (Host.divf (broadcastInDim Cert.Reference3Ideal.S8x4096x1 ![0, 1] bcast_S8x4096_S8x4096x1_0_1 (Host.reduceAdd (mulf Y Y) (constant Cert.Reference3Ideal.S_ .f32 0x00000000#32) reducesTo_S8x4096x1024_S8x4096_d2 h_S_)) (broadcastInDim Cert.Reference3Ideal.S8x4096x1 ![] bcast_S_S8x4096x1 (constant Cert.Reference3Ideal.S_ .f32 0x44800000#32))) (broadcastInDim Cert.Reference3Ideal.S8x4096x1 ![] bcast_S_S8x4096x1 (constant Cert.Reference3Ideal.S_ .f32 0x358637BD#32)))))) (broadcastInDim Cert.Reference3Ideal.S8x4096x1024 ![0, 1, 2] bcast_S1x1x1024_S8x4096x1024_0_1_2 (broadcastInDim Cert.Reference3Ideal.S1x1x1024 ![2] bcast_S1024_S1x1x1024_2 arg3))))

/-- The index maps of the windows, and the second grid coordinate. -/
theorem idx : ∀ t : Fin cfg0.N, win0_0.index t = ![t.val / 8, t.val % 8, 0] ∧ win0_1.index t = ![t.val / 8, 0, 0] ∧ win0_2.index t = ![0, 0]
    ∧ win0_3.index t = ![0, 0] ∧ win0_4.index t = ![t.val / 8, t.val % 8, 0] ∧ win0_5.index t = ![t.val / 8, t.val % 8, 0]
    ∧ win0_6.index t = ![t.val / 8, t.val % 8 * 32 - 1, 0] ∧ win0_7.index t = ![0, 0] ∧ win0_8.index t = ![0, 0, 0] ∧ win0_9.index t = ![0, 0]
    ∧ win0_10.index t = ![0, 0] ∧ win0_11.index t = ![0, 0] ∧ win0_12.index t = ![0, 0]
    ∧ win0_13.index t = ![t.val / 8, t.val % 8, 0] ∧ t.val / 8 < 8 :=
  (by decide +kernel : ∀ t : Fin grid0.N, _)

theorem coord : ∀ t : Fin cfg0.N, (grid0.coords t 1).val = t.val % 8 :=
  (by decide +kernel : ∀ t : Fin grid0.N, _)

theorem lt8 (t : Fin cfg0.N) : t.val / 8 < 8 := (idx t).2.2.2.2.2.2.2.2.2.2.2.2.2.2

theorem lt_row (t : Fin cfg0.N) (r : Fin 512) : t.val % 8 * 512 + r.val < 4096 := by omega

theorem lt_ext (t : Fin cfg0.N) (r : Fin 528) : t.val % 8 * 512 + r.val < 4112 := by omega

variable (m : (ℓ : Loc nD τ sig) → Buf (Elt Ideal) ℓ)

/-- The kernel's gates are the reference's. -/
theorem gate_at (c : Dev nD) (t : Fin cfg0.N) (r : Fin 512) (n : Fin 2048) :
    k0_pay15 (F := Ideal) (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r n)
      = GATE (HID (m ((c : Thread nD τ).loc main_arg0)) (m ((c : Thread nD τ).loc main_arg1)) (m ((c : Thread nD τ).loc main_arg2)))
          (m ((c : Thread nD τ).loc main_arg4)) (ix3 ⟨t.val / 8, lt8 t⟩ ⟨t.val % 8 * 512 + r.val, lt_row t r⟩ n) := by
  pointwise [k0_pay15, k0_pay3, k0_pay2, GATE, HID]
  simp only [Ideal.logistic]
  blk_point [iblk, V, idx t]

/-- A block after the first of its image has rows before it. -/
theorem later : ∀ k : Fin 8, k.val ≠ 0 → Scalar.cmpi .sgt (BitVec.ofNat 32 k.val) 0#32 = 1#1 := by decide

/-- The rows the windows read: sixteen before the block, then the block. -/
theorem ext_at (c : Dev nD) (t : Fin cfg0.N) (r : Fin 528) (n : Fin 512) :
    k0_pay17 (F := Ideal) (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r n)
      = PAST (m ((c : Thread nD τ).loc main_arg6)) (ix3 ⟨t.val / 8, lt8 t⟩ ⟨t.val % 8 * 512 + r.val, lt_ext t r⟩ n) := by
  pointwise [k0_pay17, k0_pay16, k0_pay5, k0_pay4, PAST]
  rw [coord t]
  by_cases hr : r.val < 16
  · rw [dif_pos hr]
    by_cases h0 : t.val % 8 = 0
    · rw [dif_neg (by omega), h0]
      change (0 : EReal) = (((0#32 : BitVec 32).toInt : ℝ) : EReal)
      simp
    · rw [dif_pos ⟨lt8 t, by omega, by omega⟩, later ⟨t.val % 8, by omega⟩ h0]
      change iblk m c 6 t (ix3 0 ⟨r.val, _⟩ n) = _
      blk_point [iblk, V, idx t]
  · rw [dif_neg hr, dif_pos ⟨lt8 t, by omega, by omega⟩]
    blk_point [iblk, V, idx t]

/-- A mapped channel, at its group and place. -/
theorem mapped_at (P : FVec Ideal Cert.Reference3Ideal.S8x4096x4x128 .f32) (W : FVec Ideal Cert.Reference3Ideal.S4x128x128 .f32) (b : Fin 8) (r : Fin 4096)
    (n : Fin 512) :
    MAPPED P W (ix3 b r n) = ∑ k : Fin 128, W (ix3 ⟨n.val / 128, by omega⟩ k ⟨n.val % 128, by omega⟩) * P (ix4 b r ⟨n.val / 128, by omega⟩ k) := by
  pointwise [MAPPED]

/-- A run of rows, doubled by adding its own copy from as many rows before. -/
theorem doubled (e : ℕ → EReal) (x : FVec Ideal S528x128 .f32) (k : Fin 128) (a w : ℕ) (sb : BitVec 32) (hs : sb.toNat = w) (hw : w < 528)
    (h : S528x128.Rotates 0 none) (hx : ∀ ρ : Fin 528, a ≤ ρ.val → x (ix2 ρ k) = ∑ i ∈ Finset.range w, e (ρ.val - i)) (ρ : Fin 528) (hρ : a + w ≤ ρ.val) :
    addf x (dynamicRotate 0 sb none x h) (ix2 ρ k) = ∑ i ∈ Finset.range (w + w), e (ρ.val - i) := by
  have hr : dynamicRotate 0 sb none x h (ix2 ρ k) = x (ix2 ⟨ρ.val - w, by omega⟩ k) := by
    pointwise
    congr 2
    apply Fin.ext
    simp only [hs]
    have : ρ.val + 528 - w % 528 = 528 + (ρ.val - w) := by rw [Nat.mod_eq_of_lt hw]; omega
    rw [this, Nat.add_mod_left, Nat.mod_eq_of_lt (by omega)]
  change x (ix2 ρ k) + dynamicRotate 0 sb none x h (ix2 ρ k) = _
  rw [hr, hx ρ (by omega), hx _ (by simp only; omega), Finset.sum_range_add]
  refine congrArg _ (Finset.sum_congr rfl fun i _ => congrArg e ?_)
  simp only
  omega

/-- A channel of the rows with the zeros before them. -/
def rows (A : FVec Ideal Cert.Reference3Ideal.S8x4096x512 .f32) (b : Fin 8) (n : Fin 512) (ρ : ℕ) : EReal :=
  if h : ρ < 4112 then PAST A (ix3 b ⟨ρ, h⟩ n) else 0

theorem rows_of (A : FVec Ideal Cert.Reference3Ideal.S8x4096x512 .f32) (b : Fin 8) (n : Fin 512) (ρ : ℕ) (h : ρ < 4112) :
    PAST A (ix3 b ⟨ρ, h⟩ n) = rows A b n ρ := by rw [rows, dif_pos h]

/-- The trailing means of the reference, as sums of rows. -/
theorem pooled_at (A : FVec Ideal Cert.Reference3Ideal.S8x4096x512 .f32) (b : Fin 8) (R : Fin 4096) (g : Fin 4) (k : Fin 128) :
    POOLED A (ix4 b R g k) = Ideal.div (∑ i ∈ Finset.range (2 ^ (g.val + 1)), rows A b ⟨g.val * 128 + k.val, by omega⟩ (16 + R.val - i))
      (FloatOps.sitofp (F := Ideal) .f32 (IntOp.minsi (IntOp.addi (BitVec.ofNat 32 R.val) 1#32) (BitVec.ofNat 32 (2 ^ (g.val + 1)))))
      - A (ix3 b R ⟨g.val * 128 + k.val, by omega⟩) := by
  have h : g = 0 ∨ g = 1 ∨ g = 2 ∨ g = 3 := by revert g; decide
  rcases h with rfl | rfl | rfl | rfl <;>
  · pointwise [POOLED]
    simp only [rows_of, Finset.sum_range_succ, Finset.range_zero, Finset.sum_empty, zero_add, Nat.sub_add_comm, Nat.reduceSub, Nat.reduceLeDiff,
      tsub_zero, Fin.val_zero, Fin.val_one, Fin.val_two, Fin.isValue, Nat.zero_mul, Nat.one_mul, Nat.reduceMul, Nat.reduceAdd, Nat.reducePow,
      show ((3 : Fin 4) : ℕ) = 3 from rfl]

/-- One group's mean in the kernel, from the run's sums: the rows from the sixteenth on, over the count, less the block's own. -/
def KPOOL (v : FVec Ideal S528x128 .f32) (u : FVec Ideal S512x512 .f32) (p : IVec S512x1 32) (w : BitVec 32) (o : ℕ)
    (h : S512x512.Slices ![0, o] S512x128) : FVec Ideal S512x128 .bf16 :=
  truncf .bf16 (subf (divf (extractStridedSlice S512x128 ![16, 0] v slices_S528x128_o16_0_S512x128)
    (broadcastTo S512x128 (sitofp .f32 (minsi (addi p (broadcast S512x1 1#32)) (broadcast S512x1 w))) broadcasts_S512x1_S512x128))
    (extractStridedSlice S512x128 ![0, o] u h)) bitsLt_bf16_f32

theorem kpool_at (v : FVec Ideal S528x128 .f32) (u : FVec Ideal S512x512 .f32) (p : IVec S512x1 32) (w : BitVec 32) (o : ℕ) (ho : o + 128 ≤ 512)
    (h : S512x512.Slices ![0, o] S512x128) (r : Fin 512) (k : Fin 128) :
    KPOOL v u p w o h (ix2 r k) = Ideal.div (v (ix2 ⟨16 + r.val, by omega⟩ k)) (FloatOps.sitofp (F := Ideal) .f32 (IntOp.minsi (IntOp.addi (p (ix2 r 0)) 1#32) w))
      - u (ix2 r ⟨o + k.val, by omega⟩) := by
  pointwise [KPOOL]

/-- The row number that the kernel counts in is the reference's. -/
theorem pos_at (a : ℕ) (r : Fin 512) : k0_pay6 (BitVec.ofNat 32 a) (ix2 r 0) = BitVec.ofNat 32 (a * 512 + r.val) := by
  pointwise [k0_pay6]
  rw [BitVec.ofNat_add, BitVec.ofNat_mul]
  rfl

/-- The block's own rows and the rows before it, named. -/
def own (c : Dev nD) (t : Fin cfg0.N) : FVec Ideal S512x512 .f32 :=
  k0_pay16 (F := Ideal) (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t)

def ext (c : Dev nD) (t : Fin cfg0.N) : FVec Ideal S528x512 .f32 :=
  k0_pay17 (F := Ideal) (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t)

theorem own_at (c : Dev nD) (t : Fin cfg0.N) (r : Fin 512) (n : Fin 512) :
    own m c t (ix2 r n) = m ((c : Thread nD τ).loc main_arg6) (ix3 ⟨t.val / 8, lt8 t⟩ ⟨t.val % 8 * 512 + r.val, lt_row t r⟩ n) := by
  pointwise [own, k0_pay16, k0_pay4]
  blk_point [iblk, V, idx t]

/-- A group's channels of those rows. -/
def start (c : Dev nD) (t : Fin cfg0.N) (o : ℕ) (h : S528x512.Slices ![0, o] S528x128) : FVec Ideal S528x128 .f32 :=
  extractStridedSlice S528x128 ![0, o] (ext m c t) h

/-- A channel of the rows before and in the block, by the row in the kernel's extended block. -/
def past (c : Dev nD) (t : Fin cfg0.N) (n : Fin 512) (ρ : ℕ) : EReal :=
  rows (m ((c : Thread nD τ).loc main_arg6)) ⟨t.val / 8, lt8 t⟩ n (t.val % 8 * 512 + ρ)

theorem start_at (c : Dev nD) (t : Fin cfg0.N) (o : ℕ) (h : S528x512.Slices ![0, o] S528x128) (k : Fin 128) (n : Fin 512) (hn : n.val = o + k.val)
    (ρ : Fin 528) (_ : 0 ≤ ρ.val) : start m c t o h (ix2 ρ k) = ∑ i ∈ Finset.range 1, past m c t n (ρ.val - i) := by
  rw [Finset.sum_range_one, Nat.sub_zero, past, ← rows_of _ _ _ _ (lt_ext t ρ)]
  refine Eq.trans ?_ (ext_at m c t ρ n)
  obtain ⟨n, hlt⟩ := n
  obtain rfl : n = o + k.val := hn
  pointwise [start]
  rfl

/-- A group's mean in the kernel is the reference's. -/
theorem mean_at (c : Dev nD) (t : Fin cfg0.N) (r : Fin 512) (k : Fin 128) (g : Fin 4) (v : FVec Ideal S528x128 .f32) (o : ℕ) (ho : o = g.val * 128)
    (h : S512x512.Slices ![0, o] S512x128) (n : Fin 512) (hn : n.val = o + k.val) (a w : ℕ) (ha : a ≤ 15) (hw : w = 2 ^ (g.val + 1))
    (hv : ∀ ρ : Fin 528, a ≤ ρ.val → v (ix2 ρ k) = ∑ i ∈ Finset.range w, past m c t n (ρ.val - i)) :
    KPOOL v (own m c t) (k0_pay6 (BitVec.ofNat 32 (grid0.coords t 1).val)) (BitVec.ofNat 32 w) o h (ix2 r k)
      = POOLED (m ((c : Thread nD τ).loc main_arg6)) (ix4 ⟨t.val / 8, lt8 t⟩ ⟨t.val % 8 * 512 + r.val, lt_row t r⟩ g k) := by
  subst ho hw
  obtain ⟨n, hlt⟩ := n
  obtain rfl : n = g.val * 128 + k.val := hn
  rw [kpool_at _ _ _ _ _ (by omega), pooled_at, own_at, coord t, pos_at, hv ⟨16 + r.val, by omega⟩ (by change a ≤ 16 + r.val; omega)]
  have hw : 2 ^ (g.val + 1) ≤ 16 := (Nat.pow_le_pow_right (by omega) (by omega : g.val + 1 ≤ 4))
  rw [Finset.sum_congr rfl fun i hi => congrArg (rows (m ((c : Thread nD τ).loc main_arg6)) ⟨t.val / 8, lt8 t⟩ ⟨g.val * 128 + k.val, by omega⟩)
    (by have := Finset.mem_range.mp hi; omega : t.val % 8 * 512 + (16 + r.val - i) = 16 + (t.val % 8 * 512 + r.val) - i)]

/-- Twice as many rows summed. -/
def twice (x : FVec Ideal S528x128 .f32) (w : BitVec 32) : FVec Ideal S528x128 .f32 :=
  addf x (dynamicRotate 0 w none x rotates_S528x128_d0)

/-- A group's mean through the group's map. -/
theorem through (c : Dev nD) (t : Fin cfg0.N) (r : Fin 512) (n : Fin 128) (g : Fin 4) (n' : Fin 512) (hn : n'.val = g.val * 128 + n.val)
    (x : FVec Ideal S512x128 .bf16) (w : Vec Ideal S1x128x128 .bf16)
    (hx : ∀ k, x (ix2 r k) = POOLED (m ((c : Thread nD τ).loc main_arg6)) (ix4 ⟨t.val / 8, lt8 t⟩ ⟨t.val % 8 * 512 + r.val, lt_row t r⟩ g k))
    (hw : ∀ k, w (ix3 0 k n) = m ((c : Thread nD τ).loc main_arg7) (ix3 g k n)) :
    k0_pay9 (F := Ideal) x w (ix2 r n) = MAPPED (POOLED (m ((c : Thread nD τ).loc main_arg6))) (m ((c : Thread nD τ).loc main_arg7))
      (ix3 ⟨t.val / 8, lt8 t⟩ ⟨t.val % 8 * 512 + r.val, lt_row t r⟩ n') := by
  rw [mapped_at]
  have h1 : n'.val / 128 = g.val := by omega
  have h2 : n'.val % 128 = n.val := by omega
  have e1 : (⟨n'.val / 128, by omega⟩ : Fin 4) = g := Fin.ext h1
  have e2 : (⟨n'.val % 128, by omega⟩ : Fin 128) = n := Fin.ext h2
  rw [e1, e2]
  pointwise [k0_pay9]
  refine Finset.sum_congr rfl fun k _ => ?_
  rw [hx, hw, mul_comm]

theorem pay19_at (c : Dev nD) (t : Fin cfg0.N) (r : Fin 512) (n : Fin 128) (n' : Fin 512) (hn : n'.val = n.val) :
    k0_pay19 (F := Ideal) (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r n)
      = MAPPED (POOLED (m ((c : Thread nD τ).loc main_arg6))) (m ((c : Thread nD τ).loc main_arg7)) (ix3 ⟨t.val / 8, lt8 t⟩ ⟨t.val % 8 * 512 + r.val, lt_row t r⟩ n') :=
  through m c t r n 0 n' (by simpa using hn)
    (KPOOL (twice (start m c t 0 slices_S528x512_o0_0_S528x128) 1#32) (own m c t) (k0_pay6 (BitVec.ofNat 32 (grid0.coords t 1).val)) 2#32 0 slices_S512x512_o0_0_S512x128)
    (View.ld (iblk m c 8 t) r0_7)
    (fun k => mean_at m c t r k 0 _ 0 rfl _ ⟨0 + k.val, by omega⟩ rfl _ 2 (by omega) rfl
      (doubled (past m c t ⟨0 + k.val, by omega⟩) _ k 0 1 1#32 rfl (by omega) _ (start_at m c t 0 _ k _ rfl)))
    (fun k => by blk_point [iblk, V, idx t])

theorem pay20_at (c : Dev nD) (t : Fin cfg0.N) (r : Fin 512) (n : Fin 128) (n' : Fin 512) (hn : n'.val = 128 + n.val) :
    k0_pay20 (F := Ideal) (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r n)
      = MAPPED (POOLED (m ((c : Thread nD τ).loc main_arg6))) (m ((c : Thread nD τ).loc main_arg7)) (ix3 ⟨t.val / 8, lt8 t⟩ ⟨t.val % 8 * 512 + r.val, lt_row t r⟩ n') :=
  through m c t r n 1 n' (by simpa using hn)
    (KPOOL (twice (twice (start m c t 128 slices_S528x512_o0_128_S528x128) 1#32) 2#32) (own m c t) (k0_pay6 (BitVec.ofNat 32 (grid0.coords t 1).val)) 4#32 128 slices_S512x512_o0_128_S512x128)
    (View.ld (iblk m c 8 t) r0_8)
    (fun k => mean_at m c t r k 1 _ 128 rfl _ ⟨128 + k.val, by omega⟩ rfl _ 4 (by omega) rfl
      (doubled (past m c t ⟨128 + k.val, by omega⟩) _ k _ 2 2#32 rfl (by omega) _
      (doubled (past m c t ⟨128 + k.val, by omega⟩) _ k 0 1 1#32 rfl (by omega) _ (start_at m c t 128 _ k _ rfl))))
    (fun k => by blk_point [iblk, V, idx t])

theorem pay21_at (c : Dev nD) (t : Fin cfg0.N) (r : Fin 512) (n : Fin 128) (n' : Fin 512) (hn : n'.val = 256 + n.val) :
    k0_pay21 (F := Ideal) (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r n)
      = MAPPED (POOLED (m ((c : Thread nD τ).loc main_arg6))) (m ((c : Thread nD τ).loc main_arg7)) (ix3 ⟨t.val / 8, lt8 t⟩ ⟨t.val % 8 * 512 + r.val, lt_row t r⟩ n') :=
  through m c t r n 2 n' (by simpa using hn)
    (KPOOL (twice (twice (twice (start m c t 256 slices_S528x512_o0_256_S528x128) 1#32) 2#32) 4#32) (own m c t) (k0_pay6 (BitVec.ofNat 32 (grid0.coords t 1).val)) 8#32 256 slices_S512x512_o0_256_S512x128)
    (View.ld (iblk m c 8 t) r0_9)
    (fun k => mean_at m c t r k 2 _ 256 rfl _ ⟨256 + k.val, by omega⟩ rfl _ 8 (by omega) rfl
      (doubled (past m c t ⟨256 + k.val, by omega⟩) _ k _ 4 4#32 rfl (by omega) _
      (doubled (past m c t ⟨256 + k.val, by omega⟩) _ k _ 2 2#32 rfl (by omega) _
      (doubled (past m c t ⟨256 + k.val, by omega⟩) _ k 0 1 1#32 rfl (by omega) _ (start_at m c t 256 _ k _ rfl)))))
    (fun k => by blk_point [iblk, V, idx t])

theorem pay22_at (c : Dev nD) (t : Fin cfg0.N) (r : Fin 512) (n : Fin 128) (n' : Fin 512) (hn : n'.val = 384 + n.val) :
    k0_pay9 (F := Ideal) (k0_pay22 (F := Ideal) (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t)) (View.ld (iblk m c 8 t) r0_10) (ix2 r n)
      = MAPPED (POOLED (m ((c : Thread nD τ).loc main_arg6))) (m ((c : Thread nD τ).loc main_arg7)) (ix3 ⟨t.val / 8, lt8 t⟩ ⟨t.val % 8 * 512 + r.val, lt_row t r⟩ n') :=
  through m c t r n 3 n' (by simpa using hn)
    (KPOOL (twice (twice (twice (twice (start m c t 384 slices_S528x512_o0_384_S528x128) 1#32) 2#32) 4#32) 8#32) (own m c t) (k0_pay6 (BitVec.ofNat 32 (grid0.coords t 1).val)) 16#32 384 slices_S512x512_o0_384_S512x128)
    (View.ld (iblk m c 8 t) r0_10)
    (fun k => mean_at m c t r k 3 _ 384 rfl _ ⟨384 + k.val, by omega⟩ rfl _ 16 (by omega) rfl
      (doubled (past m c t ⟨384 + k.val, by omega⟩) _ k _ 8 8#32 rfl (by omega) _
      (doubled (past m c t ⟨384 + k.val, by omega⟩) _ k _ 4 4#32 rfl (by omega) _
      (doubled (past m c t ⟨384 + k.val, by omega⟩) _ k _ 2 2#32 rfl (by omega) _
      (doubled (past m c t ⟨384 + k.val, by omega⟩) _ k 0 1 1#32 rfl (by omega) _ (start_at m c t 384 _ k _ rfl))))))
    (fun k => by blk_point [iblk, V, idx t])

/-- The four groups side by side. -/
def KMAP (a b d e : FVec Ideal S512x128 .f32) : FVec Ideal S512x512 .f32 :=
  concatenate S512x512 1 [⟨S512x128, a⟩, ⟨S512x128, b⟩, ⟨S512x128, d⟩, ⟨S512x128, e⟩] concatenates_S512x128_S512x128_S512x128_S512x128_S512x512_d1

theorem kmap_at (a b d e : FVec Ideal S512x128 .f32) (r : Fin 512) (X : Fin 512 → EReal)
    (ha : ∀ (n : Fin 128) (n' : Fin 512), n'.val = n.val → a (ix2 r n) = X n')
    (hb : ∀ (n : Fin 128) (n' : Fin 512), n'.val = 128 + n.val → b (ix2 r n) = X n')
    (hd : ∀ (n : Fin 128) (n' : Fin 512), n'.val = 256 + n.val → d (ix2 r n) = X n')
    (he : ∀ (n : Fin 128) (n' : Fin 512), n'.val = 384 + n.val → e (ix2 r n) = X n') (n : Fin 512) : KMAP a b d e (ix2 r n) = X n := by
  pointwise [KMAP]
  split_ifs <;> first | (refine ha _ _ ?_; try dsimp only)  | (refine hb _ _ ?_; try dsimp only)  | (refine hd _ _ ?_; try dsimp only)  | (refine he _ _ ?_; try dsimp only)
  all_goals omega

/-- The two branches through their maps, gated and summed, through the last map. -/
def KOUT (g : FVec Ideal S512x2048 .f32) (p : FVec Ideal S512x512 .f32) (s : Vec Ideal S1x512 .f32) (o : Vec Ideal S1x512x512 .bf16)
    (wn wp : Vec Ideal S512x1024 .bf16) (w : Vec Ideal S1024x1024 .bf16) : FVec Ideal S512x1024 .f32 :=
  matmul dot_S512x1024_S1024x1024_S512x1024_1_0_0_1_n_n none
    (truncf .bf16 (addf (mulf (extractStridedSlice S512x1024 ![0, 0] g slices_S512x2048_o0_0_S512x1024)
        (matmul dot_S512x512_S512x1024_S512x1024_1_0_0_1_n_n none (shapeCast S512x512 o shapeCasts_S1x512x512_S512x512 : FVec Ideal S512x512 .bf16)
          (shapeCast S512x1024 wn shapeCasts_S512x1024_S512x1024 : FVec Ideal S512x1024 .bf16) (constant S512x1024 .f32 0x00000000#32)))
      (mulf (extractStridedSlice S512x1024 ![0, 1024] g slices_S512x2048_o0_1024_S512x1024)
        (matmul dot_S512x512_S512x1024_S512x1024_1_0_0_1_n_n none
          (truncf .bf16 (mulf p (broadcastTo S512x512 (shapeCast S1x512 s shapeCasts_S1x512_S1x512 : FVec Ideal S1x512 .f32) broadcasts_S1x512_S512x512)) bitsLt_bf16_f32)
          (shapeCast S512x1024 wp shapeCasts_S512x1024_S512x1024 : FVec Ideal S512x1024 .bf16) (constant S512x1024 .f32 0x00000000#32)))) bitsLt_bf16_f32)
    (shapeCast S1024x1024 w shapeCasts_S1024x1024_S1024x1024 : FVec Ideal S1024x1024 .bf16) (constant S512x1024 .f32 0x00000000#32)

theorem pay12_eq (g : FVec Ideal S512x2048 .f32) (a b d : FVec Ideal S512x128 .f32) (e : FVec Ideal S512x128 .bf16) (we : Vec Ideal S1x128x128 .bf16)
    (s : Vec Ideal S1x512 .f32) (o : Vec Ideal S1x512x512 .bf16) (wn wp : Vec Ideal S512x1024 .bf16) (w : Vec Ideal S1024x1024 .bf16) :
    k0_pay12 (F := Ideal) g a b d e we s o wn wp w = KOUT g (KMAP a b d (k0_pay9 (F := Ideal) e we)) s o wn wp w := rfl

theorem out_at (c : Dev nD) (t : Fin cfg0.N) (r : Fin 512) (n : Fin 1024) (g : FVec Ideal S512x2048 .f32) (p : FVec Ideal S512x512 .f32)
    (G : FVec Ideal Cert.Reference3Ideal.S8x4096x2048 .f32) (Q : FVec Ideal Cert.Reference3Ideal.S8x4096x512 .f32)
    (hg : ∀ n, g (ix2 r n) = G (ix3 ⟨t.val / 8, lt8 t⟩ ⟨t.val % 8 * 512 + r.val, lt_row t r⟩ n))
    (hp : ∀ n, p (ix2 r n) = Q (ix3 ⟨t.val / 8, lt8 t⟩ ⟨t.val % 8 * 512 + r.val, lt_row t r⟩ n)) :
    KOUT g p (iblk m c 9 t) (iblk m c 4 t) (iblk m c 10 t) (iblk m c 11 t) (iblk m c 12 t) (ix2 r n)
      = OUT G (mulf Q (broadcastInDim Cert.Reference3Ideal.S8x4096x512 ![0, 1, 2] bcast_S1x1x512_S8x4096x512_0_1_2 (broadcastInDim Cert.Reference3Ideal.S1x1x512 ![2] bcast_S512_S1x1x512_2 (m ((c : Thread nD τ).loc main_arg8)))))
          (m ((c : Thread nD τ).loc main_arg5)) (m ((c : Thread nD τ).loc main_arg9)) (m ((c : Thread nD τ).loc main_arg10)) (m ((c : Thread nD τ).loc main_arg11))
          (ix3 ⟨t.val / 8, lt8 t⟩ ⟨t.val % 8 * 512 + r.val, lt_row t r⟩ n) := by
  pointwise [KOUT, OUT]
  simp only [hg, hp]
  blk_point [iblk, V, idx t]

/-- The kernel's last normalisation factor, of any rows. -/
def KNORM (O : FVec Ideal S512x1024 .f32) : FVec Ideal S512x1024 .f32 :=
  broadcastTo S512x1024 (rsqrt (addf (divf (shapeCast S512x1 (multiReduction .add [1] S512 (mulf O O) 0x00000000#32 reduces_S512x1024_S512 (.inl rfl) rfl) shapeCasts_S512_S512x1 : FVec Ideal S512x1 .f32)
    (broadcast S512x1 (Scalar.ofBits .f32 0x44800000#32))) (broadcast S512x1 (Scalar.ofBits .f32 0x358637BD#32)))) broadcasts_S512x1_S512x1024

theorem pay14_eq (g : FVec Ideal S512x2048 .f32) (a b d : FVec Ideal S512x128 .f32) (e : FVec Ideal S512x128 .bf16) (we : Vec Ideal S1x128x128 .bf16)
    (s : Vec Ideal S1x512 .f32) (o : Vec Ideal S1x512x512 .bf16) (wn wp : Vec Ideal S512x1024 .bf16) (w : Vec Ideal S1024x1024 .bf16) :
    k0_pay14 (F := Ideal) g a b d e we s o wn wp w = KNORM (KOUT g (KMAP a b d (k0_pay9 (F := Ideal) e we)) s o wn wp w) := rfl

/-- The gated residual at a row whose branch outputs agree. -/
theorem res_at (c : Dev nD) (t : Fin cfg0.N) (r : Fin 512) (n : Fin 1024) (O : FVec Ideal S512x1024 .f32) (Y : FVec Ideal Cert.Reference3Ideal.S8x4096x1024 .f32)
    (hO : ∀ n : Fin 1024, O (ix2 r n) = Y (ix3 ⟨t.val / 8, lt8 t⟩ ⟨t.val % 8 * 512 + r.val, lt_row t r⟩ n)) :
    k0_pay1 (F := Ideal) (k0_pay2 (iblk m c 0 t)) O (k0_pay13 (View.ld (iblk m c 1 t) r0_14)) (KNORM O) (iblk m c 3 t) (ix3 0 r n)
      = RES (m ((c : Thread nD τ).loc main_arg0)) Y (m ((c : Thread nD τ).loc main_arg1)) (m ((c : Thread nD τ).loc main_arg3))
          (ix3 ⟨t.val / 8, lt8 t⟩ ⟨t.val % 8 * 512 + r.val, lt_row t r⟩ n) := by
  pointwise [k0_pay1, k0_pay2, k0_pay13, KNORM, RES]
  simp only [hO]
  blk_point [iblk, V, idx t]

/-- The result array after the run is the reference's term of the arguments. -/
theorem final (c : Dev nD) : (dats m 0 c).arrAt 13 (cfgs 0).N
    = RES (m ((c : Thread nD τ).loc main_arg0))
        (OUT (GATE (HID (m ((c : Thread nD τ).loc main_arg0)) (m ((c : Thread nD τ).loc main_arg1)) (m ((c : Thread nD τ).loc main_arg2))) (m ((c : Thread nD τ).loc main_arg4)))
          (MIX (POOLED (m ((c : Thread nD τ).loc main_arg6))) (m ((c : Thread nD τ).loc main_arg7)) (m ((c : Thread nD τ).loc main_arg8)))
          (m ((c : Thread nD τ).loc main_arg5)) (m ((c : Thread nD τ).loc main_arg9)) (m ((c : Thread nD τ).loc main_arg10)) (m ((c : Thread nD τ).loc main_arg11)))
        (m ((c : Thread nD τ).loc main_arg1)) (m ((c : Thread nD τ).loc main_arg3)) := by
  refine (dats m 0 c).arrAt_eq_of_covers 13 _ (by decide +kernel) fun t _ y => ?_
  blk_simp
  rw [after0_13]
  frame_out
  idx_vars y
  obtain rfl : y0 = 0 := Subsingleton.elim _ _
  rw [pay12_eq, pay14_eq]
  refine (res_at m c t y1 y2 _ _ fun n => out_at m c t y1 n _ _ _ _ (gate_at m c t y1) fun n' =>
    kmap_at _ _ _ _ y1 (fun n'' => MAPPED (POOLED (m ((c : Thread nD τ).loc main_arg6))) (m ((c : Thread nD τ).loc main_arg7))
      (ix3 ⟨t.val / 8, lt8 t⟩ ⟨t.val % 8 * 512 + y1.val, lt_row t y1⟩ n'')) (pay19_at m c t y1) (pay20_at m c t y1) (pay21_at m c t y1) (pay22_at m c t y1) n').trans ?_
  unfold MIX
  blk_ext [iblk, V, idx t]

end Cert.Kernel3Ideal.Value3

end
-- ==== Proof.ProjRef.lean ====
module

public import proofs.«01_k».proof.Proof.Gen.Reference4Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference4Ideal.Value4
open Cert.Reference4Ideal Cert.Reference4Ideal.Gen

/-- The projection: the modulated norm of the tokens through the weights. -/
def PROJ (X : FVec Ideal S8x4096x1024 .f32) (M : FVec Ideal S8x6144 .f32) (G : FVec Ideal S1024 .f32) (W : FVec Ideal S1024x3864 .f32) : FVec Ideal S8x4096x3864 .f32 :=
  Host.dotGeneral dot_S8x4096x1024_S1024x3864_S8x4096x3864_2_0_01_1_n_n none (addf (mulf (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 G))) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 1024] (broadcastInDim S8x1x6144 ![0, 2] bcast_S8x6144_S8x1x6144_0_2 M) slices_S8x1x6144_S8x1x1024_0_0_1024)))) (broadcastInDim S8x4096x1024 ![0, 1, 2] bcast_S8x1x1024_S8x4096x1024_0_1_2 (extractStridedSlice S8x1x1024 ![0, 0, 0] (broadcastInDim S8x1x6144 ![0, 2] bcast_S8x6144_S8x1x6144_0_2 M) slices_S8x1x6144_S8x1x1024_0_0_0))) W

/-- The angle of a position for each of the 32 frequencies. -/
def ANG : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The cosines of the angles. -/
def COS : FVec Ideal S1x4096x1x32 .f32 := broadcastInDim S1x4096x1x32 ![1, 3] bcast_S4096x32_S1x4096x1x32_1_3 (Host.cos ANG)

/-- The sines of the angles. -/
def SIN : FVec Ideal S1x4096x1x32 .f32 := broadcastInDim S1x4096x1x32 ![1, 3] bcast_S4096x32_S1x4096x1x32_1_3 (Host.sin ANG)

/-- One where a position lies in a block, zero elsewhere. -/
def BLK : FVec Ideal S4096x64 .f32 :=
  let p : IVec S4096x1 32 := broadcastInDim S4096x1 ![0] bcast_S4096_S4096x1_0 (iotaInDim S4096 32 0)
  let n : IVec S_ 32 := (constantI S_ 32 64#32)
  let d : IVec S4096x1 32 := Host.divsi p (broadcastInDim S4096x1 ![] bcast_S_S4096x1 n)
  uitofp .f32 (cmpi .eq (broadcastInDim S4096x64 ![0, 1] bcast_S4096x1_S4096x64_0_1 (select (andi (cmpi .ne (signi p) (broadcastInDim S4096x1 ![] bcast_S_S4096x1 (signi n))) (cmpi .ne (Host.remsi p (broadcastInDim S4096x1 ![] bcast_S_S4096x1 n)) (broadcastInDim S4096x1 ![] bcast_S_S4096x1 (constantI S_ 32 0#32)))) (subi d (broadcastInDim S4096x1 ![] bcast_S_S4096x1 (constantI S_ 32 1#32))) d)) (broadcastInDim S4096x64 ![0, 1] bcast_S1x64_S4096x64_0_1 (broadcastInDim S1x64 ![1] bcast_S64_S1x64_1 (iotaInDim S64 32 0))))

/-- A one and zeros. -/
def ONES : FVec Ideal S1x64 .f32 :=
  uitofp .f32 (cmpi .eq (broadcastInDim S1x64 ![1] bcast_S64_S1x64_1 (iotaInDim S64 32 0)) (broadcastInDim S1x64 ![] bcast_S_S1x64 (constantI S_ 32 0#32)))

/-- Eight heads turned by the angles. -/
def ROPE8 (A : FVec Ideal S8x4096x8x64 .f32) : FVec Ideal S8x4096x8x64 .f32 :=
  concatenate S8x4096x8x64 3 [⟨S8x4096x8x32, (subf (mulf (extractStridedSlice S8x4096x8x32 ![0, 0, 0, 0] A slices_S8x4096x8x64_S8x4096x8x32_0_0_0_0) (broadcastInDim S8x4096x8x32 ![0, 1, 2, 3] bcast_S1x4096x1x32_S8x4096x8x32_0_1_2_3 COS)) (mulf (extractStridedSlice S8x4096x8x32 ![0, 0, 0, 32] A slices_S8x4096x8x64_S8x4096x8x32_0_0_0_32) (broadcastInDim S8x4096x8x32 ![0, 1, 2, 3] bcast_S1x4096x1x32_S8x4096x8x32_0_1_2_3 SIN)) : FVec Ideal S8x4096x8x32 .f32)⟩, ⟨S8x4096x8x32, (addf (mulf (extractStridedSlice S8x4096x8x32 ![0, 0, 0, 32] A slices_S8x4096x8x64_S8x4096x8x32_0_0_0_32) (broadcastInDim S8x4096x8x32 ![0, 1, 2, 3] bcast_S1x4096x1x32_S8x4096x8x32_0_1_2_3 COS)) (mulf (extractStridedSlice S8x4096x8x32 ![0, 0, 0, 0] A slices_S8x4096x8x64_S8x4096x8x32_0_0_0_0) (broadcastInDim S8x4096x8x32 ![0, 1, 2, 3] bcast_S1x4096x1x32_S8x4096x8x32_0_1_2_3 SIN)) : FVec Ideal S8x4096x8x32 .f32)⟩] concatenates_S8x4096x8x32_S8x4096x8x32_S8x4096x8x64_d3

/-- Two heads turned by the angles. -/
def ROPE2 (A : FVec Ideal S8x4096x2x64 .f32) : FVec Ideal S8x4096x2x64 .f32 :=
  concatenate S8x4096x2x64 3 [⟨S8x4096x2x32, (subf (mulf (extractStridedSlice S8x4096x2x32 ![0, 0, 0, 0] A slices_S8x4096x2x64_S8x4096x2x32_0_0_0_0) (broadcastInDim S8x4096x2x32 ![0, 1, 2, 3] bcast_S1x4096x1x32_S8x4096x2x32_0_1_2_3 COS)) (mulf (extractStridedSlice S8x4096x2x32 ![0, 0, 0, 32] A slices_S8x4096x2x64_S8x4096x2x32_0_0_0_32) (broadcastInDim S8x4096x2x32 ![0, 1, 2, 3] bcast_S1x4096x1x32_S8x4096x2x32_0_1_2_3 SIN)) : FVec Ideal S8x4096x2x32 .f32)⟩, ⟨S8x4096x2x32, (addf (mulf (extractStridedSlice S8x4096x2x32 ![0, 0, 0, 32] A slices_S8x4096x2x64_S8x4096x2x32_0_0_0_32) (broadcastInDim S8x4096x2x32 ![0, 1, 2, 3] bcast_S1x4096x1x32_S8x4096x2x32_0_1_2_3 COS)) (mulf (extractStridedSlice S8x4096x2x32 ![0, 0, 0, 0] A slices_S8x4096x2x64_S8x4096x2x32_0_0_0_0) (broadcastInDim S8x4096x2x32 ![0, 1, 2, 3] bcast_S1x4096x1x32_S8x4096x2x32_0_1_2_3 SIN)) : FVec Ideal S8x4096x2x32 .f32)⟩] concatenates_S8x4096x2x32_S8x4096x2x32_S8x4096x2x64_d3

/-- A head's number turned by the angles of its position: the first half of the head takes cos and minus sin, the second cos and sin. -/
def TURN (f : Fin 64 → EReal) (s : Fin 4096) (d : Fin 64) : EReal :=
  if h : d.val < 32 then f d * COS (ix4 0 s 0 ⟨d.val, h⟩) - f ⟨d.val + 32, by omega⟩ * SIN (ix4 0 s 0 ⟨d.val, h⟩)
  else f d * COS (ix4 0 s 0 ⟨d.val - 32, by omega⟩) + f ⟨d.val - 32, by omega⟩ * SIN (ix4 0 s 0 ⟨d.val - 32, by omega⟩)

/-- The turned heads' array, at a point. -/
theorem rope8_at (A : FVec Ideal S8x4096x8x64 .f32) (b : Fin 8) (s : Fin 4096) (h : Fin 8) (d : Fin 64) :
    ROPE8 A (ix4 b s h d) = TURN (fun d => A (ix4 b s h d)) s d := by
  unfold TURN
  pointwise [ROPE8]
  refine dite_congr rfl (fun hd => ?_) (fun hd => ?_)
  · simp only [Nat.add_comm 32]
  · have e : 32 + (d.val - 32) = d.val := by omega
    simp only [e]

/-- The turned heads' array, at a point. -/
theorem rope2_at (A : FVec Ideal S8x4096x2x64 .f32) (b : Fin 8) (s : Fin 4096) (h : Fin 2) (d : Fin 64) :
    ROPE2 A (ix4 b s h d) = TURN (fun d => A (ix4 b s h d)) s d := by
  unfold TURN
  pointwise [ROPE2]
  refine dite_congr rfl (fun hd => ?_) (fun hd => ?_)
  · simp only [Nat.add_comm 32]
  · have e : 32 + (d.val - 32) = d.val := by omega
    simp only [e]

variable (Y : FVec Ideal S8x4096x3864 .f32)

/-- The queries: 8 heads turned, a row of 128 each. -/
def QQ : FVec Ideal S8x8x4096x128 .bf16 :=
  truncf .bf16 (concatenate S8x8x4096x128 3 [⟨S8x8x4096x64, (transpose S8x8x4096x64 [0, 2, 1, 3] (ROPE8 (shapeCast _ (extractStridedSlice S8x4096x512 ![0, 0, 0] Y slices_S8x4096x3864_S8x4096x512_0_0_0) shapeCasts_S8x4096x512_S8x4096x8x64)) transposes_S8x4096x8x64_S8x8x4096x64_0_2_1_3)⟩, ⟨S8x8x4096x64, (broadcastInDim S8x8x4096x64 ![] bcast_S_S8x8x4096x64 (constant S_ .f32 0x00000000#32))⟩] concatenates_S8x8x4096x64_S8x8x4096x64_S8x8x4096x128_d3) bitsLt_bf16_f32

/-- The keys of the compression: two heads turned, side by side. -/
def KC : FVec Ideal S8x4096x128 .f32 :=
  shapeCast _ (ROPE2 (shapeCast _ (extractStridedSlice S8x4096x128 ![0, 0, 512] Y slices_S8x4096x3864_S8x4096x128_0_0_512) shapeCasts_S8x4096x128_S8x4096x2x64)) shapeCasts_S8x4096x2x64_S8x4096x128

/-- The keys of the chosen blocks: two heads turned, beside each the position's block as a row of zeros and a one. -/
def KS : FVec Ideal S8x2x4096x128 .bf16 :=
  truncf .bf16 (concatenate S8x2x4096x128 3 [⟨S8x2x4096x64, (transpose S8x2x4096x64 [0, 2, 1, 3] (ROPE2 (shapeCast _ (extractStridedSlice S8x4096x128 ![0, 0, 768] Y slices_S8x4096x3864_S8x4096x128_0_0_768) shapeCasts_S8x4096x128_S8x4096x2x64)) transposes_S8x4096x2x64_S8x2x4096x64_0_2_1_3)⟩, ⟨S8x2x4096x64, (broadcastInDim S8x2x4096x64 ![2, 3] bcast_S4096x64_S8x2x4096x64_2_3 BLK)⟩] concatenates_S8x2x4096x64_S8x2x4096x64_S8x2x4096x128_d3) bitsLt_bf16_f32

/-- The keys of the window: two heads turned, a row of 128 each. -/
def KW : FVec Ideal S8x2x4096x128 .bf16 :=
  truncf .bf16 (concatenate S8x2x4096x128 3 [⟨S8x2x4096x64, (transpose S8x2x4096x64 [0, 2, 1, 3] (ROPE2 (shapeCast _ (extractStridedSlice S8x4096x128 ![0, 0, 1024] Y slices_S8x4096x3864_S8x4096x128_0_0_1024) shapeCasts_S8x4096x128_S8x4096x2x64)) transposes_S8x4096x2x64_S8x2x4096x64_0_2_1_3)⟩, ⟨S8x2x4096x64, (broadcastInDim S8x2x4096x64 ![] bcast_S_S8x2x4096x64 (constant S_ .f32 0x00000000#32))⟩] concatenates_S8x2x4096x64_S8x2x4096x64_S8x2x4096x128_d3) bitsLt_bf16_f32

/-- The values of the chosen blocks: two heads, beside each a one and zeros. -/
def VS : FVec Ideal S8x2x4096x128 .bf16 :=
  truncf .bf16 (concatenate S8x2x4096x128 3 [⟨S8x2x4096x64, (transpose S8x2x4096x64 [0, 2, 1, 3] (shapeCast _ (extractStridedSlice S8x4096x128 ![0, 0, 896] Y slices_S8x4096x3864_S8x4096x128_0_0_896) shapeCasts_S8x4096x128_S8x4096x2x64) transposes_S8x4096x2x64_S8x2x4096x64_0_2_1_3)⟩, ⟨S8x2x4096x64, (broadcastInDim S8x2x4096x64 ![2, 3] bcast_S1x64_S8x2x4096x64_2_3 ONES)⟩] concatenates_S8x2x4096x64_S8x2x4096x64_S8x2x4096x128_d3) bitsLt_bf16_f32

/-- The values of the window: two heads, beside each a one and zeros. -/
def VW : FVec Ideal S8x2x4096x128 .bf16 :=
  truncf .bf16 (concatenate S8x2x4096x128 3 [⟨S8x2x4096x64, (transpose S8x2x4096x64 [0, 2, 1, 3] (shapeCast _ (extractStridedSlice S8x4096x128 ![0, 0, 1152] Y slices_S8x4096x3864_S8x4096x128_0_0_1152) shapeCasts_S8x4096x128_S8x4096x2x64) transposes_S8x4096x2x64_S8x2x4096x64_0_2_1_3)⟩, ⟨S8x2x4096x64, (broadcastInDim S8x2x4096x64 ![2, 3] bcast_S1x64_S8x2x4096x64_2_3 ONES)⟩] concatenates_S8x2x4096x64_S8x2x4096x64_S8x2x4096x128_d3) bitsLt_bf16_f32

/-- The gates of the two groups, each padded to 64. -/
def GATE : FVec Ideal S8x2x4096x64 .f32 :=
  transpose S8x2x4096x64 [0, 2, 1, 3] (pad S8x4096x2x64 ![0, 0, 0, 0] ![0, 0, 0, 52] ![0, 0, 0, 0] (shapeCast _ (extractStridedSlice S8x4096x24 ![0, 0, 1280] Y slices_S8x4096x3864_S8x4096x24_0_0_1280) shapeCasts_S8x4096x24_S8x4096x2x12) (sitofp .f32 (constantI S_ 32 0#32)) pads_S8x4096x2x12_S8x4096x2x64_000_000_000_0520 h_S_) transposes_S8x4096x2x64_S8x2x4096x64_0_2_1_3

/-- The gates of a group, then those of the other. -/
def GLS : FVec Ideal S8x2x4096x128 .f32 :=
  concatenate S8x2x4096x128 3 [⟨S8x2x4096x64, GATE Y⟩, ⟨S8x2x4096x64, (Host.reverse [1] (GATE Y))⟩] concatenates_S8x2x4096x64_S8x2x4096x64_S8x2x4096x128_d3

/-- The queries at a point. -/
theorem qq_at (b : Fin 8) (h : Fin 8) (s : Fin 4096) (l : Fin 128) :
    QQ Y (ix4 b h s l) = if hl : l.val < 64 then TURN (fun d => Y (ix3 b s ⟨h.val * 64 + d.val, by omega⟩)) s ⟨l.val, hl⟩ else (0 : EReal) := by
  pointwise [QQ]
  simp only [rope8_at]
  pointwise

/-- The compression's keys at a point. -/
theorem kc_at (b : Fin 8) (s : Fin 4096) (l : Fin 128) :
    KC Y (ix3 b s l) = TURN (fun d => Y (ix3 b s ⟨512 + (l.val / 64 * 64 + d.val), by omega⟩)) s ⟨l.val % 64, by omega⟩ := by
  pointwise [KC]
  simp only [rope2_at]
  pointwise

/-- The chosen blocks' keys at a point. -/
theorem ks_at (b : Fin 8) (h : Fin 2) (s : Fin 4096) (l : Fin 128) :
    KS Y (ix4 b h s l) = if hl : l.val < 64 then TURN (fun d => Y (ix3 b s ⟨768 + (h.val * 64 + d.val), by omega⟩)) s ⟨l.val, hl⟩
      else BLK (ix2 s ⟨l.val - 64, by omega⟩) := by
  pointwise [KS]
  simp only [rope2_at]
  pointwise

/-- The window's keys at a point. -/
theorem kw_at (b : Fin 8) (h : Fin 2) (s : Fin 4096) (l : Fin 128) :
    KW Y (ix4 b h s l) = if hl : l.val < 64 then TURN (fun d => Y (ix3 b s ⟨1024 + (h.val * 64 + d.val), by omega⟩)) s ⟨l.val, hl⟩
      else (0 : EReal) := by
  pointwise [KW]
  simp only [rope2_at]
  pointwise

/-- The chosen blocks' values at a point. -/
theorem vs_at (b : Fin 8) (h : Fin 2) (s : Fin 4096) (l : Fin 128) :
    VS Y (ix4 b h s l) = if hl : l.val < 64 then Y (ix3 b s ⟨896 + (h.val * 64 + l.val), by omega⟩) else ONES (ix2 0 ⟨l.val - 64, by omega⟩) := by
  pointwise [VS]

/-- The window's values at a point. -/
theorem vw_at (b : Fin 8) (h : Fin 2) (s : Fin 4096) (l : Fin 128) :
    VW Y (ix4 b h s l) = if hl : l.val < 64 then Y (ix3 b s ⟨1152 + (h.val * 64 + l.val), by omega⟩) else ONES (ix2 0 ⟨l.val - 64, by omega⟩) := by
  pointwise [VW]

/-- A group's gates at a point: 12 numbers, then zeros. -/
theorem gate_at (b : Fin 8) (h : Fin 2) (s : Fin 4096) (l : Fin 64) :
    GATE Y (ix4 b h s l) = if hl : l.val < 12 then Y (ix3 b s ⟨1280 + (h.val * 12 + l.val), by omega⟩) else (0 : EReal) := by
  have z : (FloatOps.sitofp (F := Ideal) FTy.f32 0#32 : EReal) = 0 := by simp [FloatOps.sitofp]
  pointwise [GATE]
  rw [z]

/-- The gates of a group beside those of the other, at a point. -/
theorem gl_at (b : Fin 8) (h : Fin 2) (s : Fin 4096) (l : Fin 128) :
    GLS Y (ix4 b h s l) = if hl : l.val < 64 then GATE Y (ix4 b h s ⟨l.val, hl⟩) else GATE Y (ix4 b h.rev s ⟨l.val - 64, by omega⟩) := by
  pointwise [GLS]
  simp

/-- The block of a position, as the reference's words find it. -/
theorem div_word : ∀ s : Fin 4096, Scalar.select
          (IntOp.andi
            (IntOp.cmpi (w := 32) CmpIPredicate.ne
              (if BitVec.ofNat 32 s.val = 0 then 0 else if (BitVec.ofNat 32 s.val).msb = true then -1 else 1)
              (if 64#32 = 0 then 0 else if (64#32).msb = true then -1 else 1))
            (IntOp.cmpi CmpIPredicate.ne
              (IntOp.remsi ArithUnit.host (BitVec.ofNat 32 s.val) 64#32) 0#32))
          (IntOp.subi (IntOp.divsi ArithUnit.host (BitVec.ofNat 32 s.val) 64#32) 1#32)
          (IntOp.divsi ArithUnit.host (BitVec.ofNat 32 s.val) 64#32) = BitVec.ofNat 32 (s.val / 64) := by
  decide +kernel

/-- Small words are equal where their numbers are. -/
theorem eq_word (a b : Nat) (ha : a < 64) (hb : b < 64) :
    IntOp.cmpi CmpIPredicate.eq (BitVec.ofNat 32 a) (BitVec.ofNat 32 b) = if a = b then 1#1 else 0#1 :=
  (by decide +kernel : ∀ a b : Fin 64, IntOp.cmpi CmpIPredicate.eq (BitVec.ofNat 32 a.val) (BitVec.ofNat 32 b.val) = if a.val = b.val then 1#1 else 0#1) ⟨a, ha⟩ ⟨b, hb⟩

/-- One where a position lies in the block. -/
theorem blk_at (s : Fin 4096) (l : Fin 64) :
    BLK (ix2 s l) = if s.val / 64 = l.val then (1 : EReal) else 0 := by
  pointwise [BLK]
  refine (congrArg (fun w => FloatOps.uitofp (F := Ideal) FTy.f32 (IntOp.cmpi CmpIPredicate.eq w (BitVec.ofNat 32 l.val))) (div_word s)).trans ?_
  rw [eq_word _ _ (by omega) l.isLt]
  split <;> simp [FloatOps.uitofp]

/-- One at the first lane. -/
theorem ones_at (l : Fin 64) :
    ONES (ix2 0 l) = if l.val = 0 then (1 : EReal) else 0 := by
  pointwise [ONES]
  refine (congrArg (FloatOps.uitofp (F := Ideal) FTy.f32) (eq_word l.val 0 l.isLt (by omega))).trans ?_
  split <;> simp [FloatOps.uitofp]

end Cert.Reference4Ideal.Value4

end
-- ==== Proof.Proj.lean ====
module

public import proofs.«01_k».proof.Proof.Gen.Kernel4Ideal.Frame
public import proofs.«01_k».proof.Proof.ProjRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Value4
open Cert.Kernel4Ideal Cert.Kernel4Ideal.Gen
open Cert.Reference4Ideal.Value4

/-- A lane of the lower half, as the kernel's word comparison finds it. -/
theorem lo_at (r : Fin 512) (l : Fin 128) : k0_pay5 (ix2 r l) = if l.val < 64 then 1#1 else 0#1 := by
  pointwise [k0_pay5]
  revert l; decide +kernel

/-- A lane of the first half of its head. -/
theorem half_at (r : Fin 512) (l : Fin 128) :
    k0_pay7 (iota .tc S512x128 32 [1] iota_S512x128_d1_w32) (Scalar.select (Scalar.cmpi .eq 64#32 0#32) 1#32 64#32) k0_pay6 (ix2 r l)
      = if l.val % 64 < 32 then 1#1 else 0#1 := by
  pointwise [k0_pay7, k0_pay6]
  revert l; decide +kernel

/-- The kernel's turn of a slab of 128 lanes by the angles of its rows. -/
def KROT (v C S : FVec Ideal S512x128 .f32) (h : IVec S512x128 1) : FVec Ideal S512x128 .f32 :=
  addf (mulf v C) (mulf (select h (dynamicRotate 1 96#32 none v rotates_S512x128_d1) (dynamicRotate 1 32#32 none v rotates_S512x128_d1)) S)

/-- A slab turned by the kernel is the reference's turn of each of its two heads. -/
theorem turn_at (v C S : FVec Ideal S512x128 .f32) (h : IVec S512x128 1) (r : Fin 512) (l : Fin 128) (s : Fin 4096)
    (hh : h (ix2 r l) = if l.val % 64 < 32 then 1#1 else 0#1)
    (hC : C (ix2 r l) = COS (ix4 0 s 0 ⟨l.val % 32, by omega⟩))
    (hS : S (ix2 r l) = if l.val % 64 < 32 then -SIN (ix4 0 s 0 ⟨l.val % 32, by omega⟩) else SIN (ix4 0 s 0 ⟨l.val % 32, by omega⟩)) :
    KROT v C S h (ix2 r l) = TURN (fun d => v (ix2 r ⟨l.val / 64 * 64 + d.val, by omega⟩)) s ⟨l.val % 64, by omega⟩ := by
  pointwise [KROT]
  rw [hh, hC, hS]
  unfold TURN
  have e0 : l.val / 64 * 64 + l.val % 64 = l.val := by omega
  by_cases hl : l.val % 64 < 32
  · have e1 : l.val % 32 = l.val % 64 := by omega
    have e2 : (l.val + 128 - 96) % 128 = l.val / 64 * 64 + (l.val % 64 + 32) := by omega
    have en : ∀ a b : EReal, a * -b = -(a * b) := fun a b => by rw [mul_comm, EReal.neg_mul, mul_comm]
    simp only [hl, if_true, dite_true, e0, e1, e2, Scalar.select, sub_eq_add_neg, en]
    rfl
  · have e1 : l.val % 32 = l.val % 64 - 32 := by omega
    have e2 : (l.val + 128 - 32) % 128 = l.val / 64 * 64 + (l.val % 64 - 32) := by omega
    have e3 : (0#1 : BitVec 1) ≠ 1 := by decide
    simp only [hl, if_false, dite_false, e0, e1, e2, e3, Scalar.select]

/-- The kernel's angles. -/
def ANGK : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- Two arrays of 32 columns side by side, twice over. -/
def TAB (a b : FVec Ideal S4096x32 .f32) : FVec Ideal S4096x128 .f32 :=
  shapeCast S4096x128 (broadcastInDim S1x4096x2x64 ![0, 1, 2, 3] bcast_S1x4096x1x64_S1x4096x2x64_0_1_2_3 (shapeCast S1x4096x1x64 (concatenate S4096x64 1 [⟨S4096x32, a⟩, ⟨S4096x32, b⟩] concatenates_S4096x32_S4096x32_S4096x64_d1 : FVec Ideal S4096x64 .f32) shapeCasts_S4096x64_S1x4096x1x64)) shapeCasts_S1x4096x2x64_S4096x128

theorem tab_at (a b : FVec Ideal S4096x32 .f32) (s : Fin 4096) (l : Fin 128) :
    TAB a b (ix2 s l) = if l.val % 64 < 32 then a (ix2 s ⟨l.val % 32, by omega⟩) else b (ix2 s ⟨l.val % 32, by omega⟩) := by
  pointwise [TAB]
  split
  · rename_i h
    have e : l.val % 64 = l.val % 32 := by omega
    simp only [e]
  · rename_i h
    have e : l.val % 64 - 32 = l.val % 32 := by omega
    simp only [e]

variable (m : (ℓ : Loc nD τ sig) → Buf (Elt Ideal) ℓ)

theorem V_cos (c : Dev nD) : V m c main_v17 = TAB (Host.cos ANGK) (Host.cos ANGK) := by
  entry_read
  rfl

theorem V_sin (c : Dev nD) : V m c main_v22 = TAB (Host.negf (Host.sin ANGK)) (Host.sin ANGK) := by
  entry_read
  rfl

theorem V_mod (c : Dev nD) : V m c main_v23 = shapeCast S8x6x1024 (m ((c : Thread nD τ).loc main_arg1) : FVec Ideal S8x6144 .f32) shapeCasts_S8x6144_S8x6x1024 := by
  entry_read
  rfl

theorem V_g (c : Dev nD) : V m c main_v24 = shapeCast S1x1024 (m ((c : Thread nD τ).loc main_arg2) : FVec Ideal S1024 .f32) shapeCasts_S1024_S1x1024 := by
  entry_read
  rfl

/-- The host's gates' columns: 12 of each group, padded to 64. -/
def WGATE (W : FVec Ideal S1024x3864 .bf16) : FVec Ideal S1024x128 .bf16 :=
  shapeCast S1024x128 (pad S1024x2x64 ![0, 0, 0] ![0, 0, 52] ![0, 0, 0] (shapeCast S1024x2x12 (extractStridedSlice S1024x24 ![0, 1280] W slices_S1024x3864_S1024x24_0_1280) shapeCasts_S1024x24_S1024x2x12) (sitofp .bf16 (constantI S_ 32 0#32)) pads_S1024x2x12_S1024x2x64_000_000_0520 h_S_) shapeCasts_S1024x2x64_S1024x128

/-- The host's arrangement of the weights' columns. -/
def WCAT (W : FVec Ideal S1024x3864 .bf16) : FVec Ideal S1024x1920 .bf16 :=
  concatenate S1024x1920 1 [⟨S1024x512, extractStridedSlice S1024x512 ![0, 0] W slices_S1024x3864_S1024x512_0_0⟩,
    ⟨S1024x128, extractStridedSlice S1024x128 ![0, 512] W slices_S1024x3864_S1024x128_0_512⟩,
    ⟨S1024x128, extractStridedSlice S1024x128 ![0, 768] W slices_S1024x3864_S1024x128_0_768⟩,
    ⟨S1024x128, extractStridedSlice S1024x128 ![0, 1024] W slices_S1024x3864_S1024x128_0_1024⟩,
    ⟨S1024x128, extractStridedSlice S1024x128 ![0, 640] W slices_S1024x3864_S1024x128_0_640⟩,
    ⟨S1024x128, extractStridedSlice S1024x128 ![0, 896] W slices_S1024x3864_S1024x128_0_896⟩,
    ⟨S1024x128, extractStridedSlice S1024x128 ![0, 1152] W slices_S1024x3864_S1024x128_0_1152⟩,
    ⟨S1024x128, WGATE W⟩,
    ⟨S1024x512, extractStridedSlice S1024x512 ![0, 1304] W slices_S1024x3864_S1024x512_0_1304⟩] concatenates_S1024x512_S1024x128_S1024x128_S1024x128_S1024x128_S1024x128_S1024x128_S1024x128_S1024x512_S1024x1920_d1

theorem V_w (c : Dev nD) : V m c main_v39 = WCAT (truncf .bf16 (m ((c : Thread nD τ).loc main_arg3) : FVec Ideal S1024x3864 .f32) bitsLt_bf16_f32) := by
  entry_read
  rfl

/-- The column of the weights that the host puts in column n. -/
def COL (n : Nat) : Nat :=
  if n < 640 then n else if n < 768 then n + 128 else if n < 896 then n + 256 else if n < 1024 then n - 256
  else if n < 1152 then n - 128 else if n < 1280 then n else if n < 1408 then 1280 + ((n - 1280) / 64 * 12 + (n - 1280) % 64) else n - 104

theorem col_lt (n : Fin 1920) (hg : n.val < 1280 ∨ 1408 ≤ n.val ∨ (n.val - 1280) % 64 < 12) : COL n.val < 3864 := by
  unfold COL; split_ifs <;> omega

set_option maxHeartbeats 2000000 in
/-- The host's weights, column by column. -/
theorem w_at (W : FVec Ideal S1024x3864 .bf16) (k : Fin 1024) (n : Fin 1920) (hg : n.val < 1280 ∨ 1408 ≤ n.val ∨ (n.val - 1280) % 64 < 12) :
    WCAT W (ix2 k n) = W (ix2 k ⟨COL n.val, col_lt n hg⟩) := by
  have key : ∀ (a : Nat) (ha : a < 3864), a = COL n.val → W (ix2 k ⟨a, ha⟩) = W (ix2 k ⟨COL n.val, col_lt n hg⟩) := by
    intro a ha e; subst e; rfl
  pointwise [WCAT, WGATE]
  by_cases h0 : n.val < 512
  · rw [dif_pos h0]; exact key _ _ (by unfold COL; split_ifs <;> omega)
  rw [dif_neg h0]
  by_cases h1 : n.val - 512 < 128
  · rw [dif_pos h1]; exact key _ _ (by unfold COL; split_ifs <;> omega)
  rw [dif_neg h1]
  by_cases h2 : n.val - 512 - 128 < 128
  · rw [dif_pos h2]; exact key _ _ (by unfold COL; split_ifs <;> omega)
  rw [dif_neg h2]
  by_cases h3 : n.val - 512 - 128 - 128 < 128
  · rw [dif_pos h3]; exact key _ _ (by unfold COL; split_ifs <;> omega)
  rw [dif_neg h3]
  by_cases h4 : n.val - 512 - 128 - 128 - 128 < 128
  · rw [dif_pos h4]; exact key _ _ (by unfold COL; split_ifs <;> omega)
  rw [dif_neg h4]
  by_cases h5 : n.val - 512 - 128 - 128 - 128 - 128 < 128
  · rw [dif_pos h5]; exact key _ _ (by unfold COL; split_ifs <;> omega)
  rw [dif_neg h5]
  by_cases h6 : n.val - 512 - 128 - 128 - 128 - 128 - 128 < 128
  · rw [dif_pos h6]; exact key _ _ (by unfold COL; split_ifs <;> omega)
  rw [dif_neg h6]
  by_cases h7 : n.val - 512 - 128 - 128 - 128 - 128 - 128 - 128 < 128
  · rw [dif_pos h7, dif_pos (by omega)]; exact key _ _ (by unfold COL; split_ifs <;> omega)
  rw [dif_neg h7]
  exact key _ _ (by unfold COL; split_ifs <;> omega)

/-- The columns that pad the gates are zero. -/
theorem w_zero (W : FVec Ideal S1024x3864 .bf16) (k : Fin 1024) (n : Fin 1920) (h1 : 1280 ≤ n.val) (h2 : n.val < 1408) (h3 : 12 ≤ (n.val - 1280) % 64) :
    WCAT W (ix2 k n) = (0 : EReal) := by
  have z : (FloatOps.sitofp (F := Ideal) FTy.bf16 0#32 : EReal) = 0 := by simp [FloatOps.sitofp]
  pointwise [WCAT, WGATE]
  rw [dif_neg (by omega), dif_neg (by omega), dif_neg (by omega), dif_neg (by omega), dif_neg (by omega), dif_neg (by omega), dif_neg (by omega),
    dif_pos (by omega), dif_neg (by omega)]
  exact z

/-- The index maps of the windows. -/
theorem idx : ∀ t : Fin cfg0.N, win0_0.index t = ![t.val / 8, t.val % 8, 0] ∧ win0_1.index t = ![t.val / 8, 0, 0] ∧ win0_2.index t = ![0, 0]
    ∧ win0_3.index t = ![0, 0] ∧ win0_4.index t = ![t.val % 8, 0] ∧ win0_5.index t = ![t.val % 8, 0] ∧ win0_6.index t = ![t.val / 8, 0, t.val % 8, 0]
    ∧ win0_7.index t = ![t.val / 8, t.val % 8, 0] ∧ win0_8.index t = ![t.val / 8, t.val % 8, 0] ∧ win0_9.index t = ![t.val / 8, 0, t.val % 8, 0]
    ∧ win0_10.index t = ![t.val / 8, 0, t.val % 8, 0] ∧ win0_11.index t = ![t.val / 8, 0, t.val % 8, 0] ∧ win0_12.index t = ![t.val / 8, 0, t.val % 8, 0]
    ∧ win0_13.index t = ![t.val / 8, 0, t.val % 8, 0] ∧ win0_14.index t = ![t.val / 8, t.val % 8, 0] :=
  (by decide +kernel : ∀ t : Fin grid0.N, _)

theorem lt8 (t : Fin cfg0.N) : t.val / 8 < 8 := (by decide +kernel : ∀ t : Fin grid0.N, t.val / 8 < 8) t

theorem lt_row (t : Fin cfg0.N) (r : Fin 512) : t.val % 8 * 512 + r.val < 4096 := by omega

end Cert.Kernel4Ideal.Value4

end
-- ==== Proof.ProjBlock.lean ====
module

public import proofs.«01_k».proof.Proof.Proj
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Value4
open Cert.Kernel4Ideal Cert.Kernel4Ideal.Gen
open Cert.Reference4Ideal.Value4

variable (m : (ℓ : Loc nD τ sig) → Buf (Elt Ideal) ℓ)

set_option maxHeartbeats 2000000 in
/-- The norm's scale, as the kernel's block holds it. -/
theorem g_at (c : Dev nD) (t : Fin cfg0.N) (k : Fin 1024) : iblk m c 2 t (ix2 0 k) = (m ((c : Thread nD τ).loc main_arg2) : FVec Ideal S1024 .f32) (ix1 k) := by
  refine Eq.trans ?_ ((congrFun (V_g m c) (ix2 0 k)).trans ?_)
  · blk_ext [iblk, idx t]
  · pointwise

set_option maxHeartbeats 2000000 in
/-- The modulation, as the kernel's block holds it. -/
theorem mod_at (c : Dev nD) (t : Fin cfg0.N) (j : Fin 6) (k : Fin 1024) :
    iblk m c 1 t (ix3 0 j k) = (m ((c : Thread nD τ).loc main_arg1) : FVec Ideal S8x6144 .f32) (ix2 ⟨t.val / 8, lt8 t⟩ ⟨j.val * 1024 + k.val, by omega⟩) := by
  refine Eq.trans ?_ ((congrFun (V_mod m c) (ix3 ⟨t.val / 8, lt8 t⟩ j k)).trans ?_)
  · blk_ext [iblk, idx t]
  · pointwise

/-- The weights, as the kernel's block holds them. -/
theorem wt_at (c : Dev nD) (t : Fin cfg0.N) (k : Fin 1024) (n : Fin 1920) :
    iblk m c 3 t (ix2 k n) = WCAT (truncf .bf16 (m ((c : Thread nD τ).loc main_arg3) : FVec Ideal S1024x3864 .f32) bitsLt_bf16_f32) (ix2 k n) := by
  refine Eq.trans ?_ (congrFun (V_w m c) (ix2 k n))
  blk_ext [iblk, idx t]

/-- The cosines, as the kernel's block holds them. -/
theorem cos_at (c : Dev nD) (t : Fin cfg0.N) (r : Fin 512) (l : Fin 128) :
    iblk m c 4 t (ix2 r l) = COS (ix4 0 ⟨t.val % 8 * 512 + r.val, lt_row t r⟩ 0 ⟨l.val % 32, by omega⟩) := by
  refine Eq.trans ?_ ((congrFun (V_cos m c) (ix2 ⟨t.val % 8 * 512 + r.val, lt_row t r⟩ l)).trans ?_)
  · blk_ext [iblk, idx t]
  · rw [tab_at]
    pointwise [COS, ANGK, ANG]
    exact ite_self _

/-- The sines, as the kernel's block holds them. -/
theorem sin_at (c : Dev nD) (t : Fin cfg0.N) (r : Fin 512) (l : Fin 128) :
    iblk m c 5 t (ix2 r l) = if l.val % 64 < 32 then -SIN (ix4 0 ⟨t.val % 8 * 512 + r.val, lt_row t r⟩ 0 ⟨l.val % 32, by omega⟩)
      else SIN (ix4 0 ⟨t.val % 8 * 512 + r.val, lt_row t r⟩ 0 ⟨l.val % 32, by omega⟩) := by
  refine Eq.trans ?_ ((congrFun (V_sin m c) (ix2 ⟨t.val % 8 * 512 + r.val, lt_row t r⟩ l)).trans ?_)
  · blk_ext [iblk, idx t]
  · rw [tab_at]
    pointwise [SIN, ANGK, ANG]

set_option maxHeartbeats 2000000 in
/-- The block's product, at a column of the weights that the host put there. -/
theorem proj_at (c : Dev nD) (t : Fin cfg0.N) (r : Fin 512) (n : Fin 1920) (hg : n.val < 1280 ∨ 1408 ≤ n.val ∨ (n.val - 1280) % 64 < 12) :
    k0_pay4 (F := Ideal) (View.ld (iblk m c 0 t) r0_0) (View.ld (iblk m c 2 t) r0_1) (View.ld (iblk m c 1 t) r0_2) (View.ld (iblk m c 1 t) r0_3) (View.ld (iblk m c 3 t) r0_4) (ix2 r n)
      = PROJ (m ((c : Thread nD τ).loc main_arg0)) (m ((c : Thread nD τ).loc main_arg1)) (m ((c : Thread nD τ).loc main_arg2)) (m ((c : Thread nD τ).loc main_arg3))
          (ix3 ⟨t.val / 8, lt8 t⟩ ⟨t.val % 8 * 512 + r.val, lt_row t r⟩ ⟨COL n.val, col_lt n hg⟩) := by
  pointwise [k0_pay4, PROJ]
  simp only [wt_at, w_at _ _ n hg, g_at, mod_at]
  blk_point [iblk, V, idx t]

set_option maxHeartbeats 2000000 in
/-- The block's product is zero at the columns that pad the gates. -/
theorem proj_zero (c : Dev nD) (t : Fin cfg0.N) (r : Fin 512) (n : Fin 1920) (h1 : 1280 ≤ n.val) (h2 : n.val < 1408) (h3 : 12 ≤ (n.val - 1280) % 64) :
    k0_pay4 (F := Ideal) (View.ld (iblk m c 0 t) r0_0) (View.ld (iblk m c 2 t) r0_1) (View.ld (iblk m c 1 t) r0_2) (View.ld (iblk m c 1 t) r0_3) (View.ld (iblk m c 3 t) r0_4) (ix2 r n)
      = (0 : EReal) := by
  pointwise [k0_pay4]
  simp only [wt_at, w_zero _ _ n h1 h2 h3, mul_zero, Finset.sum_const_zero]

end Cert.Kernel4Ideal.Value4

end
-- ==== Proof.ProjOut.lean ====
module

public import proofs.«01_k».proof.Proof.ProjBlock
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Value4
open Cert.Kernel4Ideal Cert.Kernel4Ideal.Gen
open Cert.Reference4Ideal.Value4

/-- The block of a row, as the kernel's words find it. -/
theorem row_word : ∀ (g : Fin 8) (r : Fin 512), Scalar.select
    (IntOp.andi
      (IntOp.cmpi CmpIPredicate.ne
        (IntOp.subi (BitVec.setWidth 32 (IntOp.cmpi CmpIPredicate.sgt (IntOp.addi (Scalar.muli (BitVec.ofNat 32 g.val) 512#32) (BitVec.ofNat 32 r.val)) 0#32)) (BitVec.setWidth 32 (IntOp.cmpi CmpIPredicate.slt (IntOp.addi (Scalar.muli (BitVec.ofNat 32 g.val) 512#32) (BitVec.ofNat 32 r.val)) 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (IntOp.addi (Scalar.muli (BitVec.ofNat 32 g.val) 512#32) (BitVec.ofNat 32 r.val)) 64#32) 0#32))
    (IntOp.subi (IntOp.divsi ArithUnit.vector (IntOp.addi (Scalar.muli (BitVec.ofNat 32 g.val) 512#32) (BitVec.ofNat 32 r.val)) 64#32) 1#32)
    (IntOp.divsi ArithUnit.vector (IntOp.addi (Scalar.muli (BitVec.ofNat 32 g.val) 512#32) (BitVec.ofNat 32 r.val)) 64#32) = BitVec.ofNat 32 ((g.val * 512 + r.val) / 64) := by
  decide +kernel

/-- A choice between one and zero. -/
theorem pick (p : Prop) [Decidable p] : Scalar.select (if p then 1#1 else 0#1) (1 : EReal) 0 = if p then 1 else 0 := by
  split <;> rfl

/-- The kernel's one-hot of the block of a row. -/
theorem onehot_at (g : Fin 8) (r : Fin 512) (l : Fin 128) (hl : ¬ l.val < 64) :
    k0_pay27 (F := Ideal) (BitVec.ofNat 32 g.val) (iota .tc S512x128 32 [1] iota_S512x128_d1_w32) (ix2 r l)
      = if (g.val * 512 + r.val) / 64 = l.val - 64 then (1 : EReal) else 0 := by
  have e : ∀ l : Fin 128, ¬ l.val < 64 → IntOp.subi (BitVec.ofNat 32 l.val) 64#32 = BitVec.ofNat 32 (l.val - 64) := by decide +kernel
  pointwise [k0_pay27]
  refine (congrArg (fun w => Scalar.select (IntOp.cmpi CmpIPredicate.eq (IntOp.subi (BitVec.ofNat 32 l.val) 64#32) w) (1 : EReal) 0) (row_word g r)).trans ?_
  refine (congrArg (fun w => Scalar.select w (1 : EReal) 0) ((congrArg (fun w => IntOp.cmpi CmpIPredicate.eq w (BitVec.ofNat 32 ((g.val * 512 + r.val) / 64))) (e l hl)).trans
    (eq_word _ _ (by omega) (by omega)))).trans ((pick _).trans ?_)
  simp only [eq_comm]

/-- The kernel's one beside a head of values. -/
theorem one_at (r : Fin 512) (l : Fin 128) (hl : ¬ l.val < 64) :
    k0_pay37 (F := Ideal) (iota .tc S512x128 32 [1] iota_S512x128_d1_w32) (ix2 r l) = if l.val - 64 = 0 then (1 : EReal) else 0 := by
  have e : ∀ l : Fin 128, IntOp.cmpi CmpIPredicate.eq (BitVec.ofNat 32 l.val) 64#32 = if l.val = 64 then 1#1 else 0#1 := by decide +kernel
  pointwise [k0_pay37]
  rw [e l, pick]
  have : (l.val = 64) = (l.val - 64 = 0) := propext ⟨by omega, by omega⟩
  simp only [this]

theorem coord (t : Fin cfg0.N) : (grid0.coords t 1).val = t.val % 8 :=
  (by decide +kernel : ∀ t : Fin grid0.N, (grid0.coords t 1).val = t.val % 8) t

/-- A head in the lower lanes, other numbers beside it. -/
def HEADK (v z : FVec Ideal S512x128 .f32) : FVec Ideal S1x1x512x128 .bf16 :=
  shapeCast S1x1x512x128 (truncf .bf16 (select k0_pay5 v z) bitsLt_bf16_f32) shapeCasts_S512x128_S1x1x512x128

/-- A slab with its halves exchanged. -/
def SWAP (v : FVec Ideal S512x128 .f32) : FVec Ideal S512x128 .f32 := dynamicRotate 1 64#32 none v rotates_S512x128_d1

theorem head_at (v z : FVec Ideal S512x128 .f32) (r : Fin 512) (l : Fin 128) :
    HEADK v z (ix4 0 0 r l) = if l.val < 64 then v (ix2 r l) else z (ix2 r l) := by
  pointwise [HEADK]
  rw [lo_at]
  split <;> rfl

theorem swap_at (v : FVec Ideal S512x128 .f32) (r : Fin 512) (l : Fin 128) :
    SWAP v (ix2 r l) = v (ix2 r ⟨(l.val + 64) % 128, by omega⟩) := by
  have e : (l.val + 128 - 64) % 128 = (l.val + 64) % 128 := by omega
  pointwise [SWAP]
  simp only [e]

variable (m : (ℓ : Loc nD τ sig) → Buf (Elt Ideal) ℓ)

/-- The block's product. -/
def BP (c : Dev nD) (t : Fin cfg0.N) : FVec Ideal S512x1920 .f32 :=
  k0_pay4 (F := Ideal) (View.ld (iblk m c 0 t) r0_0) (View.ld (iblk m c 2 t) r0_1) (View.ld (iblk m c 1 t) r0_2) (View.ld (iblk m c 1 t) r0_3) (View.ld (iblk m c 3 t) r0_4)

/-- The reference's product of the call's arguments. -/
def PJ (c : Dev nD) : FVec Ideal Cert.Reference4Ideal.S8x4096x3864 .f32 :=
  PROJ (m ((c : Thread nD τ).loc main_arg0)) (m ((c : Thread nD τ).loc main_arg1)) (m ((c : Thread nD τ).loc main_arg2)) (m ((c : Thread nD τ).loc main_arg3))

theorem bp_at (c : Dev nD) (t : Fin cfg0.N) (r : Fin 512) (n : Fin 1920) (hg : n.val < 1280 ∨ 1408 ≤ n.val ∨ (n.val - 1280) % 64 < 12) (k : Fin 3864) (hk : COL n.val = k.val) :
    BP m c t (ix2 r n) = PJ m c (ix3 ⟨t.val / 8, lt8 t⟩ ⟨t.val % 8 * 512 + r.val, lt_row t r⟩ k) := by
  obtain rfl : k = ⟨COL n.val, col_lt n hg⟩ := Fin.ext hk.symm
  exact proj_at m c t r n hg

/-- The turn of a slab whose numbers are the reference's from column e on. -/
theorem rot_at (c : Dev nD) (t : Fin cfg0.N) (v : FVec Ideal S512x128 .f32) (e : Nat) (he : e + 128 ≤ 3864)
    (hv : ∀ (r : Fin 512) (n : Fin 128), v (ix2 r n) = PJ m c (ix3 ⟨t.val / 8, lt8 t⟩ ⟨t.val % 8 * 512 + r.val, lt_row t r⟩ ⟨e + n.val, by omega⟩))
    (r : Fin 512) (l : Fin 128) :
    KROT v (k0_pay8 (View.ld (iblk m c 4 t) r0_5)) (k0_pay9 (View.ld (iblk m c 5 t) r0_5))
      (k0_pay7 (iota .tc S512x128 32 [1] iota_S512x128_d1_w32) (Scalar.select (Scalar.cmpi .eq 64#32 0#32) 1#32 64#32) k0_pay6) (ix2 r l)
      = TURN (fun d => PJ m c (ix3 ⟨t.val / 8, lt8 t⟩ ⟨t.val % 8 * 512 + r.val, lt_row t r⟩ ⟨e + (l.val / 64 * 64 + d.val), by omega⟩)) ⟨t.val % 8 * 512 + r.val, lt_row t r⟩ ⟨l.val % 64, by omega⟩ := by
  refine (turn_at v _ _ _ r l ⟨t.val % 8 * 512 + r.val, lt_row t r⟩ (half_at r l) ?_ ?_).trans ?_
  · refine Eq.trans ?_ (cos_at m c t r l)
    pointwise [k0_pay8]
  · refine Eq.trans ?_ (sin_at m c t r l)
    pointwise [k0_pay9]
  · simp only [hv]

/-- The numbers beside the queries and the window's keys. -/
def Z0 : FVec Ideal S512x128 .f32 := broadcast S512x128 (Scalar.ofBits .f32 0x00000000#32)

/-- A turned head in the lower lanes. -/
theorem even_at (c : Dev nD) (t : Fin cfg0.N) (v z : FVec Ideal S512x128 .f32) (e : Nat) (he : e + 128 ≤ 3864)
    (hv : ∀ (r : Fin 512) (n : Fin 128), v (ix2 r n) = PJ m c (ix3 ⟨t.val / 8, lt8 t⟩ ⟨t.val % 8 * 512 + r.val, lt_row t r⟩ ⟨e + n.val, by omega⟩))
    (r : Fin 512) (l : Fin 128) (F : Fin 64 → Fin 3864) (hF : ∀ d, (F d).val = e + d.val) :
    HEADK (KROT v (k0_pay8 (View.ld (iblk m c 4 t) r0_5)) (k0_pay9 (View.ld (iblk m c 5 t) r0_5))
      (k0_pay7 (iota .tc S512x128 32 [1] iota_S512x128_d1_w32) (Scalar.select (Scalar.cmpi .eq 64#32 0#32) 1#32 64#32) k0_pay6)) z (ix4 0 0 r l)
      = if hl : l.val < 64 then TURN (fun d => PJ m c (ix3 ⟨t.val / 8, lt8 t⟩ ⟨t.val % 8 * 512 + r.val, lt_row t r⟩ (F d))) ⟨t.val % 8 * 512 + r.val, lt_row t r⟩ ⟨l.val, hl⟩
        else z (ix2 r l) := by
  rw [head_at]
  by_cases hl : l.val < 64
  · rw [if_pos hl, dif_pos hl, rot_at m c t v e he hv r l]
    have e0 : l.val / 64 * 64 = 0 := by omega
    have e1 : l.val % 64 = l.val := by omega
    have e2 : ∀ d : Fin 64, F d = ⟨e + d.val, by omega⟩ := fun d => Fin.ext (hF d)
    simp only [e0, e1, e2, Nat.zero_add]
  · rw [if_neg hl, dif_neg hl]

/-- The other turned head in the lower lanes. -/
theorem odd_at (c : Dev nD) (t : Fin cfg0.N) (v z : FVec Ideal S512x128 .f32) (e : Nat) (he : e + 128 ≤ 3864)
    (hv : ∀ (r : Fin 512) (n : Fin 128), v (ix2 r n) = PJ m c (ix3 ⟨t.val / 8, lt8 t⟩ ⟨t.val % 8 * 512 + r.val, lt_row t r⟩ ⟨e + n.val, by omega⟩))
    (r : Fin 512) (l : Fin 128) (F : Fin 64 → Fin 3864) (hF : ∀ d, (F d).val = e + 64 + d.val) :
    HEADK (SWAP (KROT v (k0_pay8 (View.ld (iblk m c 4 t) r0_5)) (k0_pay9 (View.ld (iblk m c 5 t) r0_5))
      (k0_pay7 (iota .tc S512x128 32 [1] iota_S512x128_d1_w32) (Scalar.select (Scalar.cmpi .eq 64#32 0#32) 1#32 64#32) k0_pay6))) z (ix4 0 0 r l)
      = if hl : l.val < 64 then TURN (fun d => PJ m c (ix3 ⟨t.val / 8, lt8 t⟩ ⟨t.val % 8 * 512 + r.val, lt_row t r⟩ (F d))) ⟨t.val % 8 * 512 + r.val, lt_row t r⟩ ⟨l.val, hl⟩
        else z (ix2 r l) := by
  rw [head_at]
  by_cases hl : l.val < 64
  · rw [if_pos hl, dif_pos hl, swap_at, rot_at m c t v e he hv r _]
    have e0 : (l.val + 64) % 128 / 64 * 64 = 64 := by omega
    have e1 : (l.val + 64) % 128 % 64 = l.val := by omega
    have e2 : ∀ d : Fin 64, F d = ⟨e + (64 + d.val), by omega⟩ := fun d => Fin.ext ((hF d).trans (Nat.add_assoc _ _ _))
    simp only [e0, e1, e2]
  · rw [if_neg hl, dif_neg hl]

theorem slab_at (c : Dev nD) (t : Fin cfg0.N) (off : Nat) (hs : S512x1920.Slices ![0, off] S512x128) (e : Nat) (he : e + 128 ≤ 3864) (ho : off + 128 ≤ 1280)
    (hc : ∀ n : Fin 128, COL (off + n.val) = e + n.val) (r : Fin 512) (n : Fin 128) :
    extractStridedSlice S512x128 ![0, off] (BP m c t) hs (ix2 r n) = PJ m c (ix3 ⟨t.val / 8, lt8 t⟩ ⟨t.val % 8 * 512 + r.val, lt_row t r⟩ ⟨e + n.val, by omega⟩) := by
  pointwise
  exact bp_at m c t r _ (Or.inl (by show off + n.val < 1280; omega)) _ (hc n)

theorem z0_at (r : Fin 512) (l : Fin 128) : Z0 (ix2 r l) = (0 : EReal) := by
  pointwise [Z0]

set_option maxHeartbeats 4000000 in
/-- The queries' array after the run. -/
theorem final_q (c : Dev nD) : (dats m 0 c).arrAt 6 (cfgs 0).N = QQ (PJ m c) := by
  have hc : ∀ j : Nat, j ≤ 512 → ∀ n : Fin 128, j + 128 ≤ 512 → COL (j + n.val) = j + n.val := fun j _ n hj => by
    unfold COL; split_ifs <;> omega
  refine (dats m 0 c).arrAt_eq_of_covers 6 _ (by decide +kernel) fun t _ y => ?_
  blk_simp
  rw [after0_6]
  idx_vars y
  refine Eq.trans (b := QQ (PJ m c) (ix4 ⟨t.val / 8, lt8 t⟩ y1 ⟨t.val % 8 * 512 + y2.val, lt_row t y2⟩ y3)) ?_ (by blk_ext [idx t])
  rw [qq_at, ← z0_at y2 y3]
  canon_tiles x h
  all_goals
    idx_vars x
    obtain rfl : x0 = 0 := Subsingleton.elim _ _
    obtain rfl : x1 = 0 := Subsingleton.elim _ _
    obtain rfl : x2 = y2 := Fin.ext h2.symm
    obtain rfl : x3 = y3 := Fin.ext h3.symm
  · have hy : y1.val = 7 := h1
    exact odd_at m c t _ Z0 384 (by omega) (slab_at m c t 384 slices_S512x1920_o0_384_S512x128 384 (by omega) (by omega) fun n => hc _ (by omega) n (by omega)) x2 x3 _ (fun d => by show y1.val * 64 + d.val = _; omega)
  · have hy : y1.val = 6 := h1
    exact even_at m c t _ Z0 384 (by omega) (slab_at m c t 384 slices_S512x1920_o0_384_S512x128 384 (by omega) (by omega) fun n => hc _ (by omega) n (by omega)) x2 x3 _ (fun d => by show y1.val * 64 + d.val = _; omega)
  · have hy : y1.val = 5 := h1
    exact odd_at m c t _ Z0 256 (by omega) (slab_at m c t 256 slices_S512x1920_o0_256_S512x128 256 (by omega) (by omega) fun n => hc _ (by omega) n (by omega)) x2 x3 _ (fun d => by show y1.val * 64 + d.val = _; omega)
  · have hy : y1.val = 4 := h1
    exact even_at m c t _ Z0 256 (by omega) (slab_at m c t 256 slices_S512x1920_o0_256_S512x128 256 (by omega) (by omega) fun n => hc _ (by omega) n (by omega)) x2 x3 _ (fun d => by show y1.val * 64 + d.val = _; omega)
  · have hy : y1.val = 3 := h1
    exact odd_at m c t _ Z0 128 (by omega) (slab_at m c t 128 slices_S512x1920_o0_128_S512x128 128 (by omega) (by omega) fun n => hc _ (by omega) n (by omega)) x2 x3 _ (fun d => by show y1.val * 64 + d.val = _; omega)
  · have hy : y1.val = 2 := h1
    exact even_at m c t _ Z0 128 (by omega) (slab_at m c t 128 slices_S512x1920_o0_128_S512x128 128 (by omega) (by omega) fun n => hc _ (by omega) n (by omega)) x2 x3 _ (fun d => by show y1.val * 64 + d.val = _; omega)
  · have hy : y1.val = 1 := h1
    exact odd_at m c t _ Z0 0 (by omega) (slab_at m c t 0 slices_S512x1920_o0_0_S512x128 0 (by omega) (by omega) fun n => hc _ (by omega) n (by omega)) x2 x3 _ (fun d => by show y1.val * 64 + d.val = _; omega)
  · have hy : y1.val = 0 := h1
    exact even_at m c t _ Z0 0 (by omega) (slab_at m c t 0 slices_S512x1920_o0_0_S512x128 0 (by omega) (by omega) fun n => hc _ (by omega) n (by omega)) x2 x3 _ (fun d => by show y1.val * 64 + d.val = _; omega)

end Cert.Kernel4Ideal.Value4

end
-- ==== Proof.ProjFinal.lean ====
module

public import proofs.«01_k».proof.Proof.ProjOut
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Value4
open Cert.Kernel4Ideal Cert.Kernel4Ideal.Gen
open Cert.Reference4Ideal.Value4

variable (m : (ℓ : Loc nD τ sig) → Buf (Elt Ideal) ℓ)

theorem blkz_at (t : Fin cfg0.N) (r : Fin 512) (l : Fin 128) (hl : ¬ l.val < 64) :
    k0_pay27 (F := Ideal) (BitVec.ofNat 32 (grid0.coords t 1).val) (iota .tc S512x128 32 [1] iota_S512x128_d1_w32) (ix2 r l)
      = BLK (ix2 ⟨t.val % 8 * 512 + r.val, lt_row t r⟩ ⟨l.val - 64, by omega⟩) := by
  rw [coord, blk_at]
  exact onehot_at ⟨t.val % 8, by omega⟩ r l hl

theorem onez_at (r : Fin 512) (l : Fin 128) (hl : ¬ l.val < 64) :
    k0_pay37 (F := Ideal) (iota .tc S512x128 32 [1] iota_S512x128_d1_w32) (ix2 r l) = ONES (ix2 0 ⟨l.val - 64, by omega⟩) := by
  rw [ones_at]
  exact one_at r l hl

theorem flat_at (v : FVec Ideal S512x128 .f32) (r : Fin 512) (l : Fin 128) : shapeCast S1x512x128 v shapeCasts_S512x128_S1x512x128 (ix3 0 r l) = v (ix2 r l) := by
  pointwise

set_option maxHeartbeats 1000000 in
/-- The chosen blocks' keys after the run. -/
theorem final_ks (c : Dev nD) : (dats m 0 c).arrAt 9 (cfgs 0).N = KS (PJ m c) := by
  have hc : ∀ n : Fin 128, COL (640 + n.val) = 768 + n.val := fun n => by
    unfold COL; split_ifs <;> omega
  refine (dats m 0 c).arrAt_eq_of_covers 9 _ (by decide +kernel) fun t _ y => ?_
  blk_simp
  rw [after0_9]
  idx_vars y
  refine Eq.trans (b := KS (PJ m c) (ix4 ⟨t.val / 8, lt8 t⟩ y1 ⟨t.val % 8 * 512 + y2.val, lt_row t y2⟩ y3)) ?_ (by blk_ext [idx t])
  rw [ks_at]
  canon_tiles x h
  all_goals
    idx_vars x
    obtain rfl : x0 = 0 := Subsingleton.elim _ _
    obtain rfl : x1 = 0 := Subsingleton.elim _ _
    obtain rfl : x2 = y2 := Fin.ext h2.symm
    obtain rfl : x3 = y3 := Fin.ext h3.symm
  · have hy : y1.val = 1 := h1
    exact (odd_at m c t _ (k0_pay27 (F := Ideal) (BitVec.ofNat 32 (grid0.coords t 1).val) (iota .tc S512x128 32 [1] iota_S512x128_d1_w32)) 768 (by omega) (slab_at m c t 640 slices_S512x1920_o0_640_S512x128 768 (by omega) (by omega) hc) x2 x3 _ (fun d => by show 768 + (y1.val * 64 + d.val) = _; omega)).trans
      (dite_congr rfl (fun _ => rfl) fun hl => blkz_at t x2 x3 hl)
  · have hy : y1.val = 0 := h1
    exact (even_at m c t _ (k0_pay27 (F := Ideal) (BitVec.ofNat 32 (grid0.coords t 1).val) (iota .tc S512x128 32 [1] iota_S512x128_d1_w32)) 768 (by omega) (slab_at m c t 640 slices_S512x1920_o0_640_S512x128 768 (by omega) (by omega) hc) x2 x3 _ (fun d => by show 768 + (y1.val * 64 + d.val) = _; omega)).trans
      (dite_congr rfl (fun _ => rfl) fun hl => blkz_at t x2 x3 hl)

set_option maxHeartbeats 1000000 in
/-- The window's keys after the run. -/
theorem final_kw (c : Dev nD) : (dats m 0 c).arrAt 10 (cfgs 0).N = KW (PJ m c) := by
  have hc : ∀ n : Fin 128, COL (768 + n.val) = 1024 + n.val := fun n => by
    unfold COL; split_ifs <;> omega
  refine (dats m 0 c).arrAt_eq_of_covers 10 _ (by decide +kernel) fun t _ y => ?_
  blk_simp
  rw [after0_10]
  idx_vars y
  refine Eq.trans (b := KW (PJ m c) (ix4 ⟨t.val / 8, lt8 t⟩ y1 ⟨t.val % 8 * 512 + y2.val, lt_row t y2⟩ y3)) ?_ (by blk_ext [idx t])
  rw [kw_at]
  canon_tiles x h
  all_goals
    idx_vars x
    obtain rfl : x0 = 0 := Subsingleton.elim _ _
    obtain rfl : x1 = 0 := Subsingleton.elim _ _
    obtain rfl : x2 = y2 := Fin.ext h2.symm
    obtain rfl : x3 = y3 := Fin.ext h3.symm
  · have hy : y1.val = 1 := h1
    exact (odd_at m c t _ Z0 1024 (by omega) (slab_at m c t 768 slices_S512x1920_o0_768_S512x128 1024 (by omega) (by omega) hc) x2 x3 _ (fun d => by show 1024 + (y1.val * 64 + d.val) = _; omega)).trans
      (dite_congr rfl (fun _ => rfl) fun hl => z0_at x2 x3)
  · have hy : y1.val = 0 := h1
    exact (even_at m c t _ Z0 1024 (by omega) (slab_at m c t 768 slices_S512x1920_o0_768_S512x128 1024 (by omega) (by omega) hc) x2 x3 _ (fun d => by show 1024 + (y1.val * 64 + d.val) = _; omega)).trans
      (dite_congr rfl (fun _ => rfl) fun hl => z0_at x2 x3)

/-- A head of values in the lower lanes, at one of them. -/
theorem pos_at (c : Dev nD) (t : Fin cfg0.N) (v z : FVec Ideal S512x128 .f32) (e : Nat) (he : e + 128 ≤ 3864)
    (hv : ∀ (r : Fin 512) (n : Fin 128), v (ix2 r n) = PJ m c (ix3 ⟨t.val / 8, lt8 t⟩ ⟨t.val % 8 * 512 + r.val, lt_row t r⟩ ⟨e + n.val, by omega⟩))
    (r : Fin 512) (l n : Fin 128) (w : FVec Ideal S512x128 .f32) (hw : w (ix2 r l) = v (ix2 r n)) (hl : l.val < 64) (k : Fin 3864) (hk : k.val = e + n.val) :
    HEADK w z (ix4 0 0 r l) = PJ m c (ix3 ⟨t.val / 8, lt8 t⟩ ⟨t.val % 8 * 512 + r.val, lt_row t r⟩ k) := by
  rw [head_at, if_pos hl, hw, hv, show k = ⟨e + n.val, by omega⟩ from Fin.ext hk]

/-- A head of values in the lower lanes, at a lane beside it. -/
theorem neg_at (w z : FVec Ideal S512x128 .f32) (r : Fin 512) (l : Fin 128) (hl : ¬ l.val < 64) :
    HEADK w z (ix4 0 0 r l) = z (ix2 r l) := by
  rw [head_at, if_neg hl]

theorem pay39_eq (P : FVec Ideal S512x1920 .f32) : k0_pay39 (F := Ideal) P (iota .tc S512x128 32 [1] iota_S512x128_d1_w32) k0_pay5
    = HEADK (extractStridedSlice S512x128 ![0, 1024] P slices_S512x1920_o0_1024_S512x128) (k0_pay37 (F := Ideal) (iota .tc S512x128 32 [1] iota_S512x128_d1_w32)) := rfl

theorem pay40_eq (P : FVec Ideal S512x1920 .f32) : k0_pay40 (F := Ideal) P (iota .tc S512x128 32 [1] iota_S512x128_d1_w32) k0_pay5
    = HEADK (SWAP (extractStridedSlice S512x128 ![0, 1024] P slices_S512x1920_o0_1024_S512x128)) (k0_pay37 (F := Ideal) (iota .tc S512x128 32 [1] iota_S512x128_d1_w32)) := rfl

set_option maxHeartbeats 1000000 in
/-- The chosen blocks' values after the run. -/
theorem final_vs (c : Dev nD) : (dats m 0 c).arrAt 11 (cfgs 0).N = VS (PJ m c) := by
  have hc : ∀ n : Fin 128, COL (1024 + n.val) = 896 + n.val := fun n => by
    unfold COL; split_ifs <;> omega
  refine (dats m 0 c).arrAt_eq_of_covers 11 _ (by decide +kernel) fun t _ y => ?_
  blk_simp
  rw [after0_11]
  idx_vars y
  refine Eq.trans (b := VS (PJ m c) (ix4 ⟨t.val / 8, lt8 t⟩ y1 ⟨t.val % 8 * 512 + y2.val, lt_row t y2⟩ y3)) ?_ (by blk_ext [idx t])
  rw [vs_at]
  canon_tiles x h
  all_goals
    idx_vars x
    obtain rfl : x0 = 0 := Subsingleton.elim _ _
    obtain rfl : x1 = 0 := Subsingleton.elim _ _
    obtain rfl : x2 = y2 := Fin.ext h2.symm
    obtain rfl : x3 = y3 := Fin.ext h3.symm
  · have hy : y1.val = 1 := h1
    refine (congrFun (pay40_eq (BP m c t)) (ix4 0 0 x2 x3)).trans ?_
    by_cases hl : x3.val < 64
    · rw [dif_pos hl]
      exact pos_at m c t _ _ 896 (by omega) (slab_at m c t 1024 slices_S512x1920_o0_1024_S512x128 896 (by omega) (by omega) hc) x2 x3 ⟨(x3.val + 64) % 128, by omega⟩ _ (swap_at _ x2 x3) hl _
        (by show 896 + (y1.val * 64 + x3.val) = 896 + (x3.val + 64) % 128; omega)
    · rw [dif_neg hl]
      exact (neg_at _ _ x2 x3 hl).trans (onez_at x2 x3 hl)
  · have hy : y1.val = 0 := h1
    refine (congrFun (pay39_eq (BP m c t)) (ix4 0 0 x2 x3)).trans ?_
    by_cases hl : x3.val < 64
    · rw [dif_pos hl]
      exact pos_at m c t _ _ 896 (by omega) (slab_at m c t 1024 slices_S512x1920_o0_1024_S512x128 896 (by omega) (by omega) hc) x2 x3 x3 _ (rfl) hl _
        (by show 896 + (y1.val * 64 + x3.val) = 896 + x3.val; omega)
    · rw [dif_neg hl]
      exact (neg_at _ _ x2 x3 hl).trans (onez_at x2 x3 hl)

theorem pay42_eq (P : FVec Ideal S512x1920 .f32) : k0_pay42 (F := Ideal) P (iota .tc S512x128 32 [1] iota_S512x128_d1_w32) k0_pay5
    = HEADK (extractStridedSlice S512x128 ![0, 1152] P slices_S512x1920_o0_1152_S512x128) (k0_pay37 (F := Ideal) (iota .tc S512x128 32 [1] iota_S512x128_d1_w32)) := rfl

theorem pay43_eq (P : FVec Ideal S512x1920 .f32) : k0_pay43 (F := Ideal) P (iota .tc S512x128 32 [1] iota_S512x128_d1_w32) k0_pay5
    = HEADK (SWAP (extractStridedSlice S512x128 ![0, 1152] P slices_S512x1920_o0_1152_S512x128)) (k0_pay37 (F := Ideal) (iota .tc S512x128 32 [1] iota_S512x128_d1_w32)) := rfl

set_option maxHeartbeats 1000000 in
/-- The window's values after the run. -/
theorem final_vw (c : Dev nD) : (dats m 0 c).arrAt 12 (cfgs 0).N = VW (PJ m c) := by
  have hc : ∀ n : Fin 128, COL (1152 + n.val) = 1152 + n.val := fun n => by
    unfold COL; split_ifs <;> omega
  refine (dats m 0 c).arrAt_eq_of_covers 12 _ (by decide +kernel) fun t _ y => ?_
  blk_simp
  rw [after0_12]
  idx_vars y
  refine Eq.trans (b := VW (PJ m c) (ix4 ⟨t.val / 8, lt8 t⟩ y1 ⟨t.val % 8 * 512 + y2.val, lt_row t y2⟩ y3)) ?_ (by blk_ext [idx t])
  rw [vw_at]
  canon_tiles x h
  all_goals
    idx_vars x
    obtain rfl : x0 = 0 := Subsingleton.elim _ _
    obtain rfl : x1 = 0 := Subsingleton.elim _ _
    obtain rfl : x2 = y2 := Fin.ext h2.symm
    obtain rfl : x3 = y3 := Fin.ext h3.symm
  · have hy : y1.val = 1 := h1
    refine (congrFun (pay43_eq (BP m c t)) (ix4 0 0 x2 x3)).trans ?_
    by_cases hl : x3.val < 64
    · rw [dif_pos hl]
      exact pos_at m c t _ _ 1152 (by omega) (slab_at m c t 1152 slices_S512x1920_o0_1152_S512x128 1152 (by omega) (by omega) hc) x2 x3 ⟨(x3.val + 64) % 128, by omega⟩ _ (swap_at _ x2 x3) hl _
        (by show 1152 + (y1.val * 64 + x3.val) = 1152 + (x3.val + 64) % 128; omega)
    · rw [dif_neg hl]
      exact (neg_at _ _ x2 x3 hl).trans (onez_at x2 x3 hl)
  · have hy : y1.val = 0 := h1
    refine (congrFun (pay42_eq (BP m c t)) (ix4 0 0 x2 x3)).trans ?_
    by_cases hl : x3.val < 64
    · rw [dif_pos hl]
      exact pos_at m c t _ _ 1152 (by omega) (slab_at m c t 1152 slices_S512x1920_o0_1152_S512x128 1152 (by omega) (by omega) hc) x2 x3 x3 _ (rfl) hl _
        (by show 1152 + (y1.val * 64 + x3.val) = 1152 + x3.val; omega)
    · rw [dif_neg hl]
      exact (neg_at _ _ x2 x3 hl).trans (onez_at x2 x3 hl)

set_option maxHeartbeats 1000000 in
/-- The compression's keys after the run. -/
theorem final_kc (c : Dev nD) : (dats m 0 c).arrAt 7 (cfgs 0).N = KC (PJ m c) := by
  have hc : ∀ n : Fin 128, COL (512 + n.val) = 512 + n.val := fun n => by
    unfold COL; split_ifs <;> omega
  refine (dats m 0 c).arrAt_eq_of_covers 7 _ (by decide +kernel) fun t _ y => ?_
  blk_simp
  rw [after0_7]
  idx_vars y
  refine Eq.trans (b := KC (PJ m c) (ix3 ⟨t.val / 8, lt8 t⟩ ⟨t.val % 8 * 512 + y1.val, lt_row t y1⟩ y2)) ?_ (by blk_ext [idx t])
  rw [kc_at]
  canon_tiles x h
  idx_vars x
  obtain rfl : x0 = 0 := Subsingleton.elim _ _
  obtain rfl : x1 = y1 := Fin.ext h1.symm
  obtain rfl : x2 = y2 := Fin.ext h2.symm
  exact (flat_at _ x1 x2).trans (rot_at m c t _ 512 (by omega) (slab_at m c t 512 slices_S512x1920_o0_512_S512x128 512 (by omega) (by omega) hc) x1 x2)

set_option maxHeartbeats 1000000 in
/-- The compression's values after the run. -/
theorem final_vc (c : Dev nD) : (dats m 0 c).arrAt 8 (cfgs 0).N = (extractStridedSlice Cert.Reference4Ideal.S8x4096x128 ![0, 0, 640] (PJ m c) Cert.Reference4Ideal.Gen.slices_S8x4096x3864_S8x4096x128_0_0_640 : FVec Ideal Cert.Reference4Ideal.S8x4096x128 .f32) := by
  have hc : ∀ n : Fin 128, COL (896 + n.val) = 640 + n.val := fun n => by
    unfold COL; split_ifs <;> omega
  refine (dats m 0 c).arrAt_eq_of_covers 8 _ (by decide +kernel) fun t _ y => ?_
  blk_simp
  rw [after0_8]
  idx_vars y
  refine Eq.trans (b := (extractStridedSlice Cert.Reference4Ideal.S8x4096x128 ![0, 0, 640] (PJ m c) Cert.Reference4Ideal.Gen.slices_S8x4096x3864_S8x4096x128_0_0_640 : FVec Ideal Cert.Reference4Ideal.S8x4096x128 .f32) (ix3 ⟨t.val / 8, lt8 t⟩ ⟨t.val % 8 * 512 + y1.val, lt_row t y1⟩ y2)) ?_ (by blk_ext [idx t])
  pointwise
  canon_tiles x h
  idx_vars x
  obtain rfl : x0 = 0 := Subsingleton.elim _ _
  obtain rfl : x1 = y1 := Fin.ext h1.symm
  obtain rfl : x2 = y2 := Fin.ext h2.symm
  exact (flat_at _ x1 x2).trans (slab_at m c t 896 slices_S512x1920_o0_896_S512x128 640 (by omega) (by omega) hc x1 x2)

theorem tail_at (c : Dev nD) (t : Fin cfg0.N) (r : Fin 512) (n : Fin 512) :
    k0_pay3 (F := Ideal) (BP m c t) (ix3 0 r n) = PJ m c (ix3 ⟨t.val / 8, lt8 t⟩ ⟨t.val % 8 * 512 + r.val, lt_row t r⟩ ⟨1304 + n.val, by omega⟩) := by
  pointwise [k0_pay3]
  refine bp_at m c t r _ (Or.inr (Or.inl (by show 1408 ≤ 1408 + n.val; omega))) _ ?_
  show COL (1408 + n.val) = 1304 + n.val
  unfold COL; split_ifs <;> omega

set_option maxHeartbeats 1000000 in
/-- The tokens' last columns after the run. -/
theorem final_u (c : Dev nD) : (dats m 0 c).arrAt 14 (cfgs 0).N = (extractStridedSlice Cert.Reference4Ideal.S8x4096x512 ![0, 0, 1304] (PJ m c) Cert.Reference4Ideal.Gen.slices_S8x4096x3864_S8x4096x512_0_0_1304 : FVec Ideal Cert.Reference4Ideal.S8x4096x512 .f32) := by
  refine (dats m 0 c).arrAt_eq_of_covers 14 _ (by decide +kernel) fun t _ y => ?_
  blk_simp
  rw [after0_14]
  idx_vars y
  refine Eq.trans (b := (extractStridedSlice Cert.Reference4Ideal.S8x4096x512 ![0, 0, 1304] (PJ m c) Cert.Reference4Ideal.Gen.slices_S8x4096x3864_S8x4096x512_0_0_1304 : FVec Ideal Cert.Reference4Ideal.S8x4096x512 .f32) (ix3 ⟨t.val / 8, lt8 t⟩ ⟨t.val % 8 * 512 + y1.val, lt_row t y1⟩ y2)) ?_ (by blk_ext [idx t])
  pointwise
  canon_tiles x h
  idx_vars x
  obtain rfl : x0 = 0 := Subsingleton.elim _ _
  obtain rfl : x1 = y1 := Fin.ext h1.symm
  obtain rfl : x2 = y2 := Fin.ext h2.symm
  exact tail_at m c t x1 x2

/-- The gates' slab of the block's product is the reference's padded gates. -/
theorem gates_at (c : Dev nD) (t : Fin cfg0.N) (r : Fin 512) (n : Fin 128) (h : Fin 2) (d : Fin 64) (hn : n.val = h.val * 64 + d.val) :
    k0_pay44 (F := Ideal) (BP m c t) (ix2 r n) = GATE (PJ m c) (ix4 ⟨t.val / 8, lt8 t⟩ h ⟨t.val % 8 * 512 + r.val, lt_row t r⟩ d) := by
  rw [gate_at]
  pointwise [k0_pay44]
  by_cases hd : d.val < 12
  · rw [dif_pos hd]
    refine bp_at m c t r _ (Or.inr (Or.inr (by show (1280 + n.val - 1280) % 64 < 12; omega))) _ ?_
    show COL (1280 + n.val) = 1280 + (h.val * 12 + d.val)
    unfold COL; split_ifs <;> omega
  · rw [dif_neg hd]
    exact proj_zero m c t r _ (by show 1280 ≤ 1280 + n.val; omega) (by show 1280 + n.val < 1408; omega) (by show 12 ≤ (1280 + n.val - 1280) % 64; omega)

theorem cube_at (v : FVec Ideal S512x128 .f32) (r : Fin 512) (l : Fin 128) : k0_pay1 v (ix4 0 0 r l) = v (ix2 r l) := by
  pointwise [k0_pay1]

set_option maxHeartbeats 1000000 in
/-- The gates after the run. -/
theorem final_gl (c : Dev nD) : (dats m 0 c).arrAt 13 (cfgs 0).N = GLS (PJ m c) := by
  refine (dats m 0 c).arrAt_eq_of_covers 13 _ (by decide +kernel) fun t _ y => ?_
  blk_simp
  rw [after0_13]
  idx_vars y
  refine Eq.trans (b := GLS (PJ m c) (ix4 ⟨t.val / 8, lt8 t⟩ y1 ⟨t.val % 8 * 512 + y2.val, lt_row t y2⟩ y3)) ?_ (by blk_ext [idx t])
  rw [gl_at]
  canon_tiles x h
  all_goals
    idx_vars x
    obtain rfl : x0 = 0 := Subsingleton.elim _ _
    obtain rfl : x1 = 0 := Subsingleton.elim _ _
    obtain rfl : x2 = y2 := Fin.ext h2.symm
    obtain rfl : x3 = y3 := Fin.ext h3.symm
  · have hy : y1.val = 1 := h1
    refine ((cube_at (SWAP _) x2 x3).trans (swap_at _ x2 x3)).trans ?_
    by_cases hl : x3.val < 64
    · rw [dif_pos hl]
      exact gates_at m c t x2 _ y1 ⟨x3.val, hl⟩ (by show (x3.val + 64) % 128 = y1.val * 64 + x3.val; omega)
    · rw [dif_neg hl]
      exact gates_at m c t x2 _ y1.rev ⟨x3.val - 64, by omega⟩ (by rw [Fin.val_rev]; show (x3.val + 64) % 128 = (2 - (y1.val + 1)) * 64 + (x3.val - 64); omega)
  · have hy : y1.val = 0 := h1
    refine (cube_at _ x2 x3).trans ?_
    by_cases hl : x3.val < 64
    · rw [dif_pos hl]
      exact gates_at m c t x2 _ y1 ⟨x3.val, hl⟩ (by show x3.val = y1.val * 64 + x3.val; omega)
    · rw [dif_neg hl]
      exact gates_at m c t x2 _ y1.rev ⟨x3.val - 64, by omega⟩ (by rw [Fin.val_rev]; show x3.val = (2 - (y1.val + 1)) * 64 + (x3.val - 64); omega)

end Cert.Kernel4Ideal.Value4

end
-- ==== Proof.ProjRun.lean ====
/- What the reference of the input projection returns, by the names of its nine results. -/
module

public import proofs.«01_k».proof.Proof.Gen.Reference4Ideal.Run
public import proofs.«01_k».proof.Proof.ProjRef

@[expose] public section

set_option maxRecDepth 8192

noncomputable section

open Idealize.ShloMosaic Idealize.ShloMosaic.StableHlo

namespace Cert.Reference4Ideal.Value4
open Cert.Reference4Ideal Cert.Reference4Ideal.Value

variable (V : Valuation τ sig (Elt Ideal))

/-- The reference's queries are those of its product. -/
theorem run_q : val4 (F := Ideal) V (Proc.devRef .tc main_v88) = QQ (res_main_v26 V) :=
  (val4_main_v88 V).trans rfl

/-- The reference's keys of the compression are those of its product. -/
theorem run_kc : val4 (F := Ideal) V (Proc.devRef .tc main_v119) = KC (res_main_v26 V) :=
  (val4_main_v119 V).trans rfl

/-- The reference's keys of the chosen blocks are those of its product. -/
theorem run_ks : val4 (F := Ideal) V (Proc.devRef .tc main_v153) = KS (res_main_v26 V) :=
  (val4_main_v153 V).trans rfl

/-- The reference's keys of the window are those of its product. -/
theorem run_kw : val4 (F := Ideal) V (Proc.devRef .tc main_v188) = KW (res_main_v26 V) :=
  (val4_main_v188 V).trans rfl

/-- The reference's values of the chosen blocks are those of its product. -/
theorem run_vs : val4 (F := Ideal) V (Proc.devRef .tc main_v193) = VS (res_main_v26 V) :=
  (val4_main_v193 V).trans rfl

/-- The reference's values of the window are those of its product. -/
theorem run_vw : val4 (F := Ideal) V (Proc.devRef .tc main_v198) = VW (res_main_v26 V) :=
  (val4_main_v198 V).trans rfl

/-- The reference's gates are those of its product. -/
theorem run_gl : val4 (F := Ideal) V (Proc.devRef .tc main_v200) = GLS (res_main_v26 V) :=
  (val4_main_v200 V).trans rfl

end Cert.Reference4Ideal.Value4
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Attn.Frame
public import proofs.«01_k».proof.Proof.Mlp
public import proofs.«01_k».proof.Proof.Merge
public import proofs.«01_k».proof.Proof.ProjFinal
public import proofs.«01_k».proof.Proof.ProjRun
public import Idealize.ShloMosaic.Lib.Claim
public import Idealize.ShloMosaic.Adequacy
public import Idealize.ShloMosaic.Init

@[expose] public section

set_option maxRecDepth 8192

noncomputable section

namespace Cert.Proof

open Idealize.ShloMosaic Idealize.SL.Sem

/-- The attention's reference keeps its arguments; it declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The three named constants of the attention kernel take the values the table gives them. -/
theorem preserves : Cert.preserves_Kernel_KernelIdeal :=
  ⟨IdealRules.named_const.statement Cert.KernelIdeal.κ "scale_log2e" .f32 0x3E38AA3B#32 (((8 * (Real.log 2))⁻¹ : ℝ) : EReal) rfl,
    IdealRules.named_const.statement Cert.KernelIdeal.κ "not_causal" .f32 0xF149F2CA#32 ⊥ rfl,
    IdealRules.named_const.statement Cert.KernelIdeal.κ "block_mask" .f32 0xCE800000#32 ⊥ rfl⟩

/-- The MLP's reference keeps its arguments; it declares no semaphore. -/
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The merge's reference keeps its arguments; it declares no semaphore. -/
theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The input projection's reference keeps its arguments; it declares no semaphore. -/
theorem frame_ri4 : Cert.quiescent_Reference4Ideal := fun m ρ _ =>
  (θ_run Cert.Reference4Ideal.defs _ _).mono (fun r h => ⟨fun c => (h c).2.2.2.2.2.2.2.2.2,
      Idealize.ShloMosaic.sem_eq_zero_of_no_sems (by decide) r.2⟩)
    (Cert.Reference4Ideal.Value.run (F := Ideal) m ρ)

/-- The MLP kernel's result is its reference's, element for element, from any arguments. -/
theorem algebraic2 : Cert.algebraic_Kernel2Ideal_Reference2Ideal := by
  pair_intro
  · run_from Cert.Kernel2Ideal.Gen.run_main m g
  · run_from Cert.Reference2Ideal.Value.run m' g'
    obtain ⟨h0, h1, h2, h3, h4, h5⟩ := hagree c
    refine Eq.trans ?_ (Cert.Kernel2Ideal.Value2.final m c).symm
    delta Cert.Reference2Ideal.Value.res_main_v45
    rw [h0, h1, h2, h3, h4, h5]
    rfl

/-- What a buffer of the merge's reference holds at the launch. -/
theorem read {m : (ℓ : Loc Cert.Reference3Ideal.nD Cert.Reference3Ideal.τ Cert.Reference3Ideal.sig) → Buf (Elt Ideal) ℓ}
    {c : Dev Cert.Reference3Ideal.nD} (b : Ref Cert.Reference3Ideal.sig .tc) {X : Buf (Elt Ideal) ((c.tc : Thread Cert.Reference3Ideal.nD Cert.Reference3Ideal.τ).loc b)}
    (h : m ((c.tc : Thread Cert.Reference3Ideal.nD Cert.Reference3Ideal.τ).loc b) = X) :
    StableHlo.launchContents m c (Proc.devRef .tc b) = X := h

open Cert.Reference3Ideal in
/-- The merge kernel's result is its reference's, element for element, from any arguments. -/
theorem algebraic3 : Cert.algebraic_Kernel3Ideal_Reference3Ideal := by
  pair_intro
  · run_from Cert.Kernel3Ideal.Gen.run_main m g
  · run_from Cert.Reference3Ideal.Value.run m' g'
    obtain ⟨h0, h1, h2, h3, h4, h5, h6, h7, h8, h9, h10, h11⟩ := hagree c
    refine Eq.trans ?_ (Cert.Kernel3Ideal.Value3.final m c).symm
    delta Cert.Reference3Ideal.Value.res_main_v150 Cert.Reference3Ideal.Value.res_main_v142
      Cert.Reference3Ideal.Value.res_main_v130 Cert.Reference3Ideal.Value.res_main_v29
      Cert.Reference3Ideal.Value.res_main_v28 Cert.Reference3Ideal.Value.res_main_v0
    rw [read main_arg0 h0, read main_arg1 h1, read main_arg2 h2, read main_arg4 h4, read main_arg5 h5, read main_arg6 h6,
      read main_arg7 h7, read main_arg8 h8, read main_arg9 h9, read main_arg10 h10, read main_arg11 h11]
    rfl

/-- The input projection kernel's run: its nine results are the reference's terms of the projection, its arguments are kept. -/
theorem run_k4 (m : (ℓ : Loc Cert.Kernel4Ideal.nD Cert.Kernel4Ideal.τ Cert.Kernel4Ideal.sig) → Buf (Elt Ideal) ℓ) (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩ fun r => ∀ c : Dev Cert.Kernel4Ideal.nD,
r.2.mem ((c.tc : Thread Cert.Kernel4Ideal.nD Cert.Kernel4Ideal.τ).loc Cert.Kernel4Ideal.main_v40_0) = Cert.Reference4Ideal.Value4.QQ (Cert.Kernel4Ideal.Value4.PJ m c)
      ∧ r.2.mem ((c.tc : Thread Cert.Kernel4Ideal.nD Cert.Kernel4Ideal.τ).loc Cert.Kernel4Ideal.main_v40_1) = Cert.Reference4Ideal.Value4.KC (Cert.Kernel4Ideal.Value4.PJ m c)
      ∧ r.2.mem ((c.tc : Thread Cert.Kernel4Ideal.nD Cert.Kernel4Ideal.τ).loc Cert.Kernel4Ideal.main_v40_2) = (extractStridedSlice Cert.Reference4Ideal.S8x4096x128 ![0, 0, 640] (Cert.Kernel4Ideal.Value4.PJ m c) Cert.Reference4Ideal.Gen.slices_S8x4096x3864_S8x4096x128_0_0_640)
      ∧ r.2.mem ((c.tc : Thread Cert.Kernel4Ideal.nD Cert.Kernel4Ideal.τ).loc Cert.Kernel4Ideal.main_v40_3) = Cert.Reference4Ideal.Value4.KS (Cert.Kernel4Ideal.Value4.PJ m c)
      ∧ r.2.mem ((c.tc : Thread Cert.Kernel4Ideal.nD Cert.Kernel4Ideal.τ).loc Cert.Kernel4Ideal.main_v40_4) = Cert.Reference4Ideal.Value4.KW (Cert.Kernel4Ideal.Value4.PJ m c)
      ∧ r.2.mem ((c.tc : Thread Cert.Kernel4Ideal.nD Cert.Kernel4Ideal.τ).loc Cert.Kernel4Ideal.main_v40_5) = Cert.Reference4Ideal.Value4.VS (Cert.Kernel4Ideal.Value4.PJ m c)
      ∧ r.2.mem ((c.tc : Thread Cert.Kernel4Ideal.nD Cert.Kernel4Ideal.τ).loc Cert.Kernel4Ideal.main_v40_6) = Cert.Reference4Ideal.Value4.VW (Cert.Kernel4Ideal.Value4.PJ m c)
      ∧ r.2.mem ((c.tc : Thread Cert.Kernel4Ideal.nD Cert.Kernel4Ideal.τ).loc Cert.Kernel4Ideal.main_v40_7) = Cert.Reference4Ideal.Value4.GLS (Cert.Kernel4Ideal.Value4.PJ m c)
      ∧ r.2.mem ((c.tc : Thread Cert.Kernel4Ideal.nD Cert.Kernel4Ideal.τ).loc Cert.Kernel4Ideal.main_v40_8) = (extractStridedSlice Cert.Reference4Ideal.S8x4096x512 ![0, 0, 1304] (Cert.Kernel4Ideal.Value4.PJ m c) Cert.Reference4Ideal.Gen.slices_S8x4096x3864_S8x4096x512_0_0_1304)
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3):= by
  refine (θ_run Cert.Kernel4Ideal.defs _ _).mono (fun r h c => ?_) (Cert.Kernel4Ideal.Value.run_blocks (F := Ideal) m g)
  obtain ⟨h0, h1, h2, h3, h4, h5, h6, h7, h8, h9⟩ := h c
  exact ⟨h0.trans (Cert.Kernel4Ideal.Value4.final_q m c), h1.trans (Cert.Kernel4Ideal.Value4.final_kc m c), h2.trans (Cert.Kernel4Ideal.Value4.final_vc m c), h3.trans (Cert.Kernel4Ideal.Value4.final_ks m c), h4.trans (Cert.Kernel4Ideal.Value4.final_kw m c), h5.trans (Cert.Kernel4Ideal.Value4.final_vs m c), h6.trans (Cert.Kernel4Ideal.Value4.final_vw m c), h7.trans (Cert.Kernel4Ideal.Value4.final_gl m c), h8.trans (Cert.Kernel4Ideal.Value4.final_u m c), h9⟩

/-- The same, with the projection under a name: what follows need not look into it. -/
theorem run_kP4 (P : Dev Cert.Kernel4Ideal.nD → FVec Ideal Cert.Reference4Ideal.S8x4096x3864 .f32) (m : (ℓ : Loc Cert.Kernel4Ideal.nD Cert.Kernel4Ideal.τ Cert.Kernel4Ideal.sig) → Buf (Elt Ideal) ℓ) (g : Dev Cert.Kernel4Ideal.nD → PrngReg)
    (hP : P = Cert.Kernel4Ideal.Value4.PJ m) :
    θ_run (Cert.Kernel4Ideal.defs (F := Ideal)) (onTc (τ := Cert.Kernel4Ideal.τ) (Cert.Kernel4Ideal.main (F := Ideal))) ⟨m, fun _ => 0, g⟩ fun r => ∀ c : Dev Cert.Kernel4Ideal.nD,
r.2.mem ((c.tc : Thread Cert.Kernel4Ideal.nD Cert.Kernel4Ideal.τ).loc Cert.Kernel4Ideal.main_v40_0) = Cert.Reference4Ideal.Value4.QQ (P c)
      ∧ r.2.mem ((c.tc : Thread Cert.Kernel4Ideal.nD Cert.Kernel4Ideal.τ).loc Cert.Kernel4Ideal.main_v40_1) = Cert.Reference4Ideal.Value4.KC (P c)
      ∧ r.2.mem ((c.tc : Thread Cert.Kernel4Ideal.nD Cert.Kernel4Ideal.τ).loc Cert.Kernel4Ideal.main_v40_2) = (extractStridedSlice Cert.Reference4Ideal.S8x4096x128 ![0, 0, 640] (P c) Cert.Reference4Ideal.Gen.slices_S8x4096x3864_S8x4096x128_0_0_640)
      ∧ r.2.mem ((c.tc : Thread Cert.Kernel4Ideal.nD Cert.Kernel4Ideal.τ).loc Cert.Kernel4Ideal.main_v40_3) = Cert.Reference4Ideal.Value4.KS (P c)
      ∧ r.2.mem ((c.tc : Thread Cert.Kernel4Ideal.nD Cert.Kernel4Ideal.τ).loc Cert.Kernel4Ideal.main_v40_4) = Cert.Reference4Ideal.Value4.KW (P c)
      ∧ r.2.mem ((c.tc : Thread Cert.Kernel4Ideal.nD Cert.Kernel4Ideal.τ).loc Cert.Kernel4Ideal.main_v40_5) = Cert.Reference4Ideal.Value4.VS (P c)
      ∧ r.2.mem ((c.tc : Thread Cert.Kernel4Ideal.nD Cert.Kernel4Ideal.τ).loc Cert.Kernel4Ideal.main_v40_6) = Cert.Reference4Ideal.Value4.VW (P c)
      ∧ r.2.mem ((c.tc : Thread Cert.Kernel4Ideal.nD Cert.Kernel4Ideal.τ).loc Cert.Kernel4Ideal.main_v40_7) = Cert.Reference4Ideal.Value4.GLS (P c)
      ∧ r.2.mem ((c.tc : Thread Cert.Kernel4Ideal.nD Cert.Kernel4Ideal.τ).loc Cert.Kernel4Ideal.main_v40_8) = (extractStridedSlice Cert.Reference4Ideal.S8x4096x512 ![0, 0, 1304] (P c) Cert.Reference4Ideal.Gen.slices_S8x4096x3864_S8x4096x512_0_0_1304)
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3):= by
  subst hP
  exact run_k4 m g

/-- The reference's run in the same terms. -/
theorem run_r4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ fun r => ∀ c : Dev Cert.Reference4Ideal.nD,
      r.2.mem ((c.tc : Thread Cert.Reference4Ideal.nD Cert.Reference4Ideal.τ).loc Cert.Reference4Ideal.main_v88) = Cert.Reference4Ideal.Value4.QQ (Cert.Reference4Ideal.Value.res_main_v26 (F := Ideal) (StableHlo.launchContents m c))
      ∧ r.2.mem ((c.tc : Thread Cert.Reference4Ideal.nD Cert.Reference4Ideal.τ).loc Cert.Reference4Ideal.main_v119) = Cert.Reference4Ideal.Value4.KC (Cert.Reference4Ideal.Value.res_main_v26 (F := Ideal) (StableHlo.launchContents m c))
      ∧ r.2.mem ((c.tc : Thread Cert.Reference4Ideal.nD Cert.Reference4Ideal.τ).loc Cert.Reference4Ideal.main_v29) = (extractStridedSlice Cert.Reference4Ideal.S8x4096x128 ![0, 0, 640] (Cert.Reference4Ideal.Value.res_main_v26 (F := Ideal) (StableHlo.launchContents m c)) Cert.Reference4Ideal.Gen.slices_S8x4096x3864_S8x4096x128_0_0_640)
      ∧ r.2.mem ((c.tc : Thread Cert.Reference4Ideal.nD Cert.Reference4Ideal.τ).loc Cert.Reference4Ideal.main_v153) = Cert.Reference4Ideal.Value4.KS (Cert.Reference4Ideal.Value.res_main_v26 (F := Ideal) (StableHlo.launchContents m c))
      ∧ r.2.mem ((c.tc : Thread Cert.Reference4Ideal.nD Cert.Reference4Ideal.τ).loc Cert.Reference4Ideal.main_v188) = Cert.Reference4Ideal.Value4.KW (Cert.Reference4Ideal.Value.res_main_v26 (F := Ideal) (StableHlo.launchContents m c))
      ∧ r.2.mem ((c.tc : Thread Cert.Reference4Ideal.nD Cert.Reference4Ideal.τ).loc Cert.Reference4Ideal.main_v193) = Cert.Reference4Ideal.Value4.VS (Cert.Reference4Ideal.Value.res_main_v26 (F := Ideal) (StableHlo.launchContents m c))
      ∧ r.2.mem ((c.tc : Thread Cert.Reference4Ideal.nD Cert.Reference4Ideal.τ).loc Cert.Reference4Ideal.main_v198) = Cert.Reference4Ideal.Value4.VW (Cert.Reference4Ideal.Value.res_main_v26 (F := Ideal) (StableHlo.launchContents m c))
      ∧ r.2.mem ((c.tc : Thread Cert.Reference4Ideal.nD Cert.Reference4Ideal.τ).loc Cert.Reference4Ideal.main_v200) = Cert.Reference4Ideal.Value4.GLS (Cert.Reference4Ideal.Value.res_main_v26 (F := Ideal) (StableHlo.launchContents m c))
      ∧ r.2.mem ((c.tc : Thread Cert.Reference4Ideal.nD Cert.Reference4Ideal.τ).loc Cert.Reference4Ideal.main_v35) = (extractStridedSlice Cert.Reference4Ideal.S8x4096x512 ![0, 0, 1304] (Cert.Reference4Ideal.Value.res_main_v26 (F := Ideal) (StableHlo.launchContents m c)) Cert.Reference4Ideal.Gen.slices_S8x4096x3864_S8x4096x512_0_0_1304)
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3) := by
  refine (θ_run Cert.Reference4Ideal.defs _ _).mono (fun r h c => ?_) (Cert.Reference4Ideal.Value.run (F := Ideal) m g)
  obtain ⟨h0, h1, h2, h3, h4, h5, h6, h7, h8, h9⟩ := h c
  exact ⟨h0.trans ((Cert.Reference4Ideal.Value.val4_main_v88 (StableHlo.launchContents m c)).symm.trans (Cert.Reference4Ideal.Value4.run_q (StableHlo.launchContents m c))),
    h1.trans ((Cert.Reference4Ideal.Value.val4_main_v119 (StableHlo.launchContents m c)).symm.trans (Cert.Reference4Ideal.Value4.run_kc (StableHlo.launchContents m c))),
    h2,
    h3.trans ((Cert.Reference4Ideal.Value.val4_main_v153 (StableHlo.launchContents m c)).symm.trans (Cert.Reference4Ideal.Value4.run_ks (StableHlo.launchContents m c))),
    h4.trans ((Cert.Reference4Ideal.Value.val4_main_v188 (StableHlo.launchContents m c)).symm.trans (Cert.Reference4Ideal.Value4.run_kw (StableHlo.launchContents m c))),
    h5.trans ((Cert.Reference4Ideal.Value.val4_main_v193 (StableHlo.launchContents m c)).symm.trans (Cert.Reference4Ideal.Value4.run_vs (StableHlo.launchContents m c))),
    h6.trans ((Cert.Reference4Ideal.Value.val4_main_v198 (StableHlo.launchContents m c)).symm.trans (Cert.Reference4Ideal.Value4.run_vw (StableHlo.launchContents m c))),
    h7.trans ((Cert.Reference4Ideal.Value.val4_main_v200 (StableHlo.launchContents m c)).symm.trans (Cert.Reference4Ideal.Value4.run_gl (StableHlo.launchContents m c))),
    h8, h9⟩

/-- The same, with the projection under a name. -/
theorem run_rP4 (P : Dev Cert.Reference4Ideal.nD → FVec Ideal Cert.Reference4Ideal.S8x4096x3864 .f32) (m' : (ℓ : Loc Cert.Reference4Ideal.nD Cert.Reference4Ideal.τ Cert.Reference4Ideal.sig) → Buf (Elt Ideal) ℓ) (g' : Dev Cert.Reference4Ideal.nD → PrngReg)
    (hP : ∀ c : Dev Cert.Reference4Ideal.nD, Cert.Reference4Ideal.Value.res_main_v26 (F := Ideal) (StableHlo.launchContents m' c) = P c) :
    θ_run (Cert.Reference4Ideal.defs (F := Ideal)) (onTc (τ := Cert.Reference4Ideal.τ) (Cert.Reference4Ideal.main (F := Ideal))) ⟨m', fun _ => 0, g'⟩ fun r => ∀ c : Dev Cert.Reference4Ideal.nD,
      r.2.mem ((c.tc : Thread Cert.Reference4Ideal.nD Cert.Reference4Ideal.τ).loc Cert.Reference4Ideal.main_v88) = Cert.Reference4Ideal.Value4.QQ (P c)
      ∧ r.2.mem ((c.tc : Thread Cert.Reference4Ideal.nD Cert.Reference4Ideal.τ).loc Cert.Reference4Ideal.main_v119) = Cert.Reference4Ideal.Value4.KC (P c)
      ∧ r.2.mem ((c.tc : Thread Cert.Reference4Ideal.nD Cert.Reference4Ideal.τ).loc Cert.Reference4Ideal.main_v29) = (extractStridedSlice Cert.Reference4Ideal.S8x4096x128 ![0, 0, 640] (P c) Cert.Reference4Ideal.Gen.slices_S8x4096x3864_S8x4096x128_0_0_640)
      ∧ r.2.mem ((c.tc : Thread Cert.Reference4Ideal.nD Cert.Reference4Ideal.τ).loc Cert.Reference4Ideal.main_v153) = Cert.Reference4Ideal.Value4.KS (P c)
      ∧ r.2.mem ((c.tc : Thread Cert.Reference4Ideal.nD Cert.Reference4Ideal.τ).loc Cert.Reference4Ideal.main_v188) = Cert.Reference4Ideal.Value4.KW (P c)
      ∧ r.2.mem ((c.tc : Thread Cert.Reference4Ideal.nD Cert.Reference4Ideal.τ).loc Cert.Reference4Ideal.main_v193) = Cert.Reference4Ideal.Value4.VS (P c)
      ∧ r.2.mem ((c.tc : Thread Cert.Reference4Ideal.nD Cert.Reference4Ideal.τ).loc Cert.Reference4Ideal.main_v198) = Cert.Reference4Ideal.Value4.VW (P c)
      ∧ r.2.mem ((c.tc : Thread Cert.Reference4Ideal.nD Cert.Reference4Ideal.τ).loc Cert.Reference4Ideal.main_v200) = Cert.Reference4Ideal.Value4.GLS (P c)
      ∧ r.2.mem ((c.tc : Thread Cert.Reference4Ideal.nD Cert.Reference4Ideal.τ).loc Cert.Reference4Ideal.main_v35) = (extractStridedSlice Cert.Reference4Ideal.S8x4096x512 ![0, 0, 1304] (P c) Cert.Reference4Ideal.Gen.slices_S8x4096x3864_S8x4096x512_0_0_1304)
      ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3) := by
  obtain rfl : P = fun c => Cert.Reference4Ideal.Value.res_main_v26 (F := Ideal) (StableHlo.launchContents m' c) := funext fun c => (hP c).symm
  exact run_r4 m' g'

/-- The input projection's product is its reference's. -/
theorem product4 {m : (ℓ : Loc Cert.Kernel4Ideal.nD Cert.Kernel4Ideal.τ Cert.Kernel4Ideal.sig) → Buf (Elt Ideal) ℓ}
    {m' : (ℓ : Loc Cert.Reference4Ideal.nD Cert.Reference4Ideal.τ Cert.Reference4Ideal.sig) → Buf (Elt Ideal) ℓ} {c : Dev Cert.Reference4Ideal.nD}
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    Cert.Reference4Ideal.Value.res_main_v26 (F := Ideal) (StableHlo.launchContents m' c) = Cert.Kernel4Ideal.Value4.PJ m c := by
  have e : Cert.Reference4Ideal.Value.res_main_v26 (F := Ideal) (StableHlo.launchContents m' c)
      = Cert.Reference4Ideal.Value4.PROJ (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
        (m' ((c.tc : Thread Cert.Reference4Ideal.nD Cert.Reference4Ideal.τ).loc Cert.Reference4Ideal.main_arg3)) := rfl
  rw [e, h0, h1, h2, h3]
  rfl

/-- The input projection kernel's nine results are its reference's, element for element, from any arguments. -/
theorem algebraic4 : Cert.algebraic_Kernel4Ideal_Reference4Ideal := by
  intro m g m' g' _ hagree
  obtain ⟨P, hP⟩ : ∃ P, P = Cert.Kernel4Ideal.Value4.PJ m := ⟨_, rfl⟩
  have hQ : ∀ c : Dev Cert.Reference4Ideal.nD, Cert.Reference4Ideal.Value.res_main_v26 (F := Ideal) (StableHlo.launchContents m' c) = P c :=
    fun c => (product4 (hagree c).1 (hagree c).2.1 (hagree c).2.2.1 (hagree c).2.2.2).trans (congrFun hP c).symm
  have hk := run_kP4 P m g hP
  have hr := run_rP4 P m' g' hQ
  clear hP hQ hagree
  exact ⟨fun c => Cert.Reference4Ideal.Value4.QQ (P c),
    fun c => Cert.Reference4Ideal.Value4.KC (P c),
    fun c => (extractStridedSlice Cert.Reference4Ideal.S8x4096x128 ![0, 0, 640] (P c) Cert.Reference4Ideal.Gen.slices_S8x4096x3864_S8x4096x128_0_0_640),
    fun c => Cert.Reference4Ideal.Value4.KS (P c),
    fun c => Cert.Reference4Ideal.Value4.KW (P c),
    fun c => Cert.Reference4Ideal.Value4.VS (P c),
    fun c => Cert.Reference4Ideal.Value4.VW (P c),
    fun c => Cert.Reference4Ideal.Value4.GLS (P c),
    fun c => (extractStridedSlice Cert.Reference4Ideal.S8x4096x512 ![0, 0, 1304] (P c) Cert.Reference4Ideal.Gen.slices_S8x4096x3864_S8x4096x512_0_0_1304),
    hk, hr⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    fun m ρ _ => Cert.Kernel.Gen.frame m ρ, fun m ρ _ => Cert.KernelIdeal.Gen.frame m ρ, frame_ri,
    fun m ρ _ => Cert.Kernel2.Gen.frame m ρ, fun m ρ _ => Cert.Kernel2Ideal.Gen.frame m ρ, frame_ri2,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, frame_ri4,
    preserves, trivial, algebraic2, trivial, algebraic3, trivial, algebraic4⟩

end Cert.Proof

end
